-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_thresholds_ascend [hPre_thresholds_ascend : Cert.Pre_thresholds_ascend.Facts] (m : (ℓ : Loc Cert.KernelIdeal.nD Cert.KernelIdeal.τ Cert.KernelIdeal.sig) → Buf (Elt Ideal) ℓ) : Prop :=
  ∀ c : Dev Cert.KernelIdeal.nD,
    (Cert.Pre_thresholds_ascend.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_thresholds_ascend [hPre_thresholds_ascend : Cert.Pre_thresholds_ascend.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_thresholds_ascend.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_thresholds_ascend [hKernelIdeal : Cert.KernelIdeal.Facts] [hPre_thresholds_ascend : Cert.Pre_thresholds_ascend.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_thresholds_ascend m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_thresholds_ascend [hReferenceIdeal : Cert.ReferenceIdeal.Facts] [hPre_thresholds_ascend : Cert.Pre_thresholds_ascend.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_thresholds_ascend m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_thresholds_ascend [hKernelIdeal : Cert.KernelIdeal.Facts] [hReferenceIdeal : Cert.ReferenceIdeal.Facts] [hPre_thresholds_ascend : Cert.Pre_thresholds_ascend.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_thresholds_ascend m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_thresholds_ascend : Cert.Pre_thresholds_ascend.Facts),
    quiescent_Kernel (hKernel := hKernel)
    ∧ quiescent_KernelIdeal (hKernelIdeal := hKernelIdeal)
    ∧ quiescent_KernelIdeal_pre_thresholds_ascend (hKernelIdeal := hKernelIdeal) (hPre_thresholds_ascend := hPre_thresholds_ascend)
    ∧ quiescent_ReferenceIdeal (hReferenceIdeal := hReferenceIdeal)
    ∧ quiescent_ReferenceIdeal_pre_thresholds_ascend (hReferenceIdeal := hReferenceIdeal) (hPre_thresholds_ascend := hPre_thresholds_ascend)
    ∧ preserves_Kernel_KernelIdeal
    ∧ algebraic_KernelIdeal_ReferenceIdeal_pre_thresholds_ascend (hKernelIdeal := hKernelIdeal) (hReferenceIdeal := hReferenceIdeal) (hPre_thresholds_ascend := hPre_thresholds_ascend)
-- ==== Pre_thresholds_ascend.lean ====
abbrev S4x8192x1024 : Shape := ⟨3, ![4, 8192, 1024]⟩
abbrev S5 : Shape := ⟨1, ![5]⟩
abbrev S4 : Shape := ⟨1, ![4]⟩
abbrev S3 : Shape := ⟨1, ![3]⟩
abbrev S_ : Shape := ⟨0, ![]⟩

class Facts : Prop where
  slices_S4_S3_1 : S4.Slices ![1] S3
  slices_S4_S3_0 : S4.Slices ![0] S3
  reducesTo_S3_S_d0 : S3.ReducesTo [0] S_
  h_S_ : 0 < S_.numel

variable [Facts]

def fn {F : FTy → Type} [FloatOps F] (main_arg0 : FVec F S4x8192x1024 .f32) (main_arg1 : FVec F S4x8192x1024 .f32) (main_arg2 : FVec F S5 .f32) (main_arg3 : FVec F S4 .f32) : IVec S_ 1 :=
  let main_v0 : FVec F S3 .f32 := (extractStridedSlice S3 ![1] · slices_S4_S3_1) main_arg3
  let main_v1 : FVec F S3 .f32 := (extractStridedSlice S3 ![0] · slices_S4_S3_0) main_arg3
  let main_v2 : IVec S3 1 := cmpf .oge main_v0 main_v1
  let main_c : IVec S_ 1 := constantI S_ 1 1#1
  let main_v3 : IVec S_ 1 := (fun x v => Host.reduce IntOp.andi x v reducesTo_S3_S_d0 h_S_) main_v2 main_c
  main_v3
-- ==== Kernel.lean ====
abbrev S4x8192x1024 : Shape := ⟨3, ![4, 8192, 1024]⟩
abbrev S5 : Shape := ⟨1, ![5]⟩
abbrev S4 : Shape := ⟨1, ![4]⟩
abbrev S32768x1024 : Shape := ⟨2, ![32768, 1024]⟩
abbrev S9 : Shape := ⟨1, ![9]⟩
abbrev S9x1 : Shape := ⟨2, ![9, 1]⟩
abbrev S_ : Shape := ⟨0, ![]⟩
abbrev S1x16 : Shape := ⟨2, ![1, 16]⟩
abbrev S9x16 : Shape := ⟨2, ![9, 16]⟩
abbrev S512 : Shape := ⟨1, ![512]⟩
abbrev S2x16x1024 : Shape := ⟨3, ![2, 16, 1024]⟩
abbrev S16 : Shape := ⟨1, ![16]⟩
abbrev S1x16x1024 : Shape := ⟨3, ![1, 16, 1024]⟩
abbrev S16x1024 : Shape := ⟨2, ![16, 1024]⟩
abbrev S1 : Shape := ⟨1, ![1]⟩
abbrev S512x1024 : Shape := ⟨2, ![512, 1024]⟩
abbrev S8x128 : Shape := ⟨2, ![8, 128]⟩
abbrev S1024 : Shape := ⟨1, ![1024]⟩
abbrev S1x8x128 : Shape := ⟨3, ![1, 8, 128]⟩
abbrev S1x1x1 : Shape := ⟨3, ![1, 1, 1]⟩

abbrev nBuf : Table → Nat
  | .hbm => 22
  | .local .tc .vmem => 5
  | .local .tc .smem => 3
  | .local .scVector .vmem => 4
  | _ => 0

abbrev bufTy : (tb : Table) → Fin (nBuf tb) → BufTy
  | .hbm, ⟨0, _⟩ => ⟨S4x8192x1024, .f32⟩
  | .hbm, ⟨1, _⟩ => ⟨S4x8192x1024, .f32⟩
  | .hbm, ⟨2, _⟩ => ⟨S5, .f32⟩
  | .hbm, ⟨3, _⟩ => ⟨S4, .f32⟩
  | .hbm, ⟨4, _⟩ => ⟨S32768x1024, .f32⟩
  | .hbm, ⟨5, _⟩ => ⟨S32768x1024, .f32⟩
  | .hbm, ⟨6, _⟩ => ⟨S9, .f32⟩
  | .hbm, ⟨7, _⟩ => ⟨S9x1, .f32⟩
  | .hbm, ⟨8, _⟩ => ⟨S_, .f32⟩
  | .hbm, ⟨9, _⟩ => ⟨S1x16, .f32⟩
  | .hbm, ⟨10, _⟩ => ⟨S9x16, .f32⟩
  | .hbm, ⟨11, _⟩ => ⟨S9x16, .f32⟩
  | .hbm, ⟨12, _⟩ => ⟨S9x16, .f32⟩
  | .hbm, ⟨13, _⟩ => ⟨S512, .f32⟩
  | .hbm, ⟨14, _⟩ => ⟨S1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local .tc .vmem, ⟨0, _⟩ => ⟨S512x1024, .f32⟩
  | .local .tc .vmem, ⟨1, _⟩ => ⟨S512x1024, .f32⟩
  | .local .tc .vmem, ⟨2, _⟩ => ⟨S512x1024, .f32⟩
  | .local .tc .vmem, ⟨3, _⟩ => ⟨S512x1024, .f32⟩
  | .local .tc .vmem, ⟨4, _⟩ => ⟨S8x128, .f32⟩
  | .local .tc .smem, ⟨0, _⟩ => ⟨S5, .f32⟩
  | .local .tc .smem, ⟨1, _⟩ => ⟨S4, .f32⟩
  | .local .tc .smem, ⟨2, _⟩ => ⟨S1, .f32⟩
  | .local .scVector .vmem, ⟨0, _⟩ => ⟨S2x16x1024, .f32⟩
  | .local .scVector .vmem, ⟨1, _⟩ => ⟨S2x16x1024, .f32⟩
  | .local .scVector .vmem, ⟨2, _⟩ => ⟨S9x16, .f32⟩
  | .local .scVector .vmem, ⟨3, _⟩ => ⟨S16, .f32⟩
  | _, _ => ⟨S4x8192x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v0_scv : Ref sig .scVector := ⟨.hbm, 4, rfl⟩
abbrev main_v1_scv : Ref sig .scVector := ⟨.hbm, 5, rfl⟩
abbrev main_v7_scv : Ref sig .scVector := ⟨.hbm, 12, rfl⟩
abbrev main_v8_scv : Ref sig .scVector := ⟨.hbm, 13, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_scratch0 : Ref sig .tc := ⟨.vmem, 4, rfl⟩
abbrev cc1_stg2_0 : Ref sig .tc := ⟨.smem, 0, rfl⟩
abbrev cc1_stg3_0 : Ref sig .tc := ⟨.smem, 1, rfl⟩
abbrev cc1_stg4_0 : Ref sig .tc := ⟨.smem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_9 : BitVec 32) : Fin 2 → Nat :=
  let c18432_i32 : BitVec 32 := 18432#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v2 : BitVec 32 := Scalar.muli v1 c448_i32
  let v3 : BitVec 32 := Scalar.addi c18432_i32 v2
  let v32 : BitVec 32 := Scalar.addi v3 c0_i32_9
  let c0_i32_13 : BitVec 32 := 0#32
  ![v32.toNat, 0]
@[reducible] def k0_t1_loop : Scf.Loop 32 :=
  let c0_i32_38 : BitVec 32 := 0#32
  let c13_i32 : BitVec 32 := 13#32
  let v58 : BitVec 32 := Scalar.addi c0_i32_38 c13_i32
  let c1_i32_39 : BitVec 32 := 1#32
  ⟨c0_i32_38, v58, c1_i32_39⟩
def k0_off2 (i : grid0.Coords) : Fin 2 → Nat :=
  let c18432_i32 : BitVec 32 := 18432#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v2 : BitVec 32 := Scalar.muli v1 c448_i32
  let v3 : BitVec 32 := Scalar.addi c18432_i32 v2
  let c0_i32_87 : BitVec 32 := 0#32
  ![v3.toNat, 0]
@[reducible] def k0_t2_loop : Scf.Loop 32 :=
  let c0_i32_100 : BitVec 32 := 0#32
  let c16_i32_101 : BitVec 32 := 16#32
  let v112 : BitVec 32 := Scalar.addi c0_i32_100 c16_i32_101
  let c1_i32_102 : BitVec 32 := 1#32
  ⟨c0_i32_100, v112, c1_i32_102⟩
@[reducible] def k0_t3_loop : Scf.Loop 32 :=
  let c0_i32_156 : BitVec 32 := 0#32
  let c8_i32_157 : BitVec 32 := 8#32
  let v158 : BitVec 32 := Scalar.addi c0_i32_156 c8_i32_157
  let c1_i32_158 : BitVec 32 := 1#32
  ⟨c0_i32_156, v158, c1_i32_158⟩
def k0_off3 (k0_t2 : Fin k0_t2_loop.trips) (k0_t3 : Fin k0_t3_loop.trips) (c0_i32_161 : BitVec 32) : Fin 2 → Nat :=
  let c0_i32_100 : BitVec 32 := 0#32
  let c1_i32_102 : BitVec 32 := 1#32
  let arg21 : BitVec 32 := Scf.iv c0_i32_100 c1_i32_102 k0_t2
  let v165 : Index := Scalar.indexCast arg21
  let c0_i32_160 : BitVec 32 := 0#32
  let c0_i32_156 : BitVec 32 := 0#32
  let c1_i32_158 : BitVec 32 := 1#32
  let arg30 : BitVec 32 := Scf.iv c0_i32_156 c1_i32_158 k0_t3
  let c128_i32 : BitVec 32 := 128#32
  let v160 : BitVec 32 := Scalar.muli arg30 c128_i32
  let v161 : BitVec 32 := Scalar.addi c0_i32_160 v160
  let v162 : BitVec 32 := Scalar.addi v161 c0_i32_161
  let v166 : Index := Scalar.indexCast v162
  ![v165.toNat, v166.toNat]
def k0_off4 (i : grid0.Coords) (k0_t1 : Fin k0_t1_loop.trips) (c2_i32_104 : BitVec 32) : Fin 2 → Nat :=
  let c18432_i32 : BitVec 32 := 18432#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v2 : BitVec 32 := Scalar.muli v1 c448_i32
  let v3 : BitVec 32 := Scalar.addi c18432_i32 v2
  let c2_i32_83 : BitVec 32 := 2#32
  let c0_i32_38 : BitVec 32 := 0#32
  let c1_i32_39 : BitVec 32 := 1#32
  let arg12 : BitVec 32 := Scf.iv c0_i32_38 c1_i32_39 k0_t1
  let v99 : BitVec 32 := Scalar.muli c2_i32_83 arg12
  let v114 : BitVec 32 := Scalar.addi v99 c2_i32_104
  let c16_i32_105 : BitVec 32 := 16#32
  let v115 : BitVec 32 := Scalar.muli v114 c16_i32_105
  let v116 : BitVec 32 := Scalar.addi v3 v115
  let c0_i32_109 : BitVec 32 := 0#32
  ![v116.toNat, 0]
@[reducible] def k0_t4_loop : Scf.Loop 32 :=
  let c0_i32_136 : BitVec 32 := 0#32
  let c16_i32_137 : BitVec 32 := 16#32
  let v141 : BitVec 32 := Scalar.addi c0_i32_136 c16_i32_137
  let c1_i32_138 : BitVec 32 := 1#32
  ⟨c0_i32_136, v141, c1_i32_138⟩
@[reducible] def k0_t5_loop : Scf.Loop 32 :=
  let c0_i32_156 : BitVec 32 := 0#32
  let c8_i32_157 : BitVec 32 := 8#32
  let v158 : BitVec 32 := Scalar.addi c0_i32_156 c8_i32_157
  let c1_i32_158 : BitVec 32 := 1#32
  ⟨c0_i32_156, v158, c1_i32_158⟩
def k0_off5 (k0_t4 : Fin k0_t4_loop.trips) (k0_t5 : Fin k0_t5_loop.trips) (c0_i32_161 : BitVec 32) : Fin 2 → Nat :=
  let c0_i32_136 : BitVec 32 := 0#32
  let c1_i32_138 : BitVec 32 := 1#32
  let arg21 : BitVec 32 := Scf.iv c0_i32_136 c1_i32_138 k0_t4
  let v165 : Index := Scalar.indexCast arg21
  let c0_i32_160 : BitVec 32 := 0#32
  let c0_i32_156 : BitVec 32 := 0#32
  let c1_i32_158 : BitVec 32 := 1#32
  let arg30 : BitVec 32 := Scf.iv c0_i32_156 c1_i32_158 k0_t5
  let c128_i32 : BitVec 32 := 128#32
  let v160 : BitVec 32 := Scalar.muli arg30 c128_i32
  let v161 : BitVec 32 := Scalar.addi c0_i32_160 v160
  let v162 : BitVec 32 := Scalar.addi v161 c0_i32_161
  let v166 : Index := Scalar.indexCast v162
  ![v165.toNat, v166.toNat]
def k0_off6 (i : grid0.Coords) : Fin 2 → Nat :=
  let c18432_i32 : BitVec 32 := 18432#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v2 : BitVec 32 := Scalar.muli v1 c448_i32
  let v3 : BitVec 32 := Scalar.addi c18432_i32 v2
  let c0_i32_44 : BitVec 32 := 0#32
  ![v3.toNat, 0]
@[reducible] def k0_t6_loop : Scf.Loop 32 :=
  let c0_i32_57 : BitVec 32 := 0#32
  let c16_i32_58 : BitVec 32 := 16#32
  let v72 : BitVec 32 := Scalar.addi c0_i32_57 c16_i32_58
  let c1_i32_59 : BitVec 32 := 1#32
  ⟨c0_i32_57, v72, c1_i32_59⟩
@[reducible] def k0_t7_loop : Scf.Loop 32 :=
  let c0_i32_83 : BitVec 32 := 0#32
  let c8_i32_84 : BitVec 32 := 8#32
  let v99 : BitVec 32 := Scalar.addi c0_i32_83 c8_i32_84
  let c1_i32_85 : BitVec 32 := 1#32
  ⟨c0_i32_83, v99, c1_i32_85⟩
def k0_off7 (k0_t6 : Fin k0_t6_loop.trips) (k0_t7 : Fin k0_t7_loop.trips) (c0_i32_88 : BitVec 32) : Fin 2 → Nat :=
  let c0_i32_57 : BitVec 32 := 0#32
  let c1_i32_59 : BitVec 32 := 1#32
  let arg12 : BitVec 32 := Scf.iv c0_i32_57 c1_i32_59 k0_t6
  let v106 : Index := Scalar.indexCast arg12
  let c0_i32_87 : BitVec 32 := 0#32
  let c0_i32_83 : BitVec 32 := 0#32
  let c1_i32_85 : BitVec 32 := 1#32
  let arg21 : BitVec 32 := Scf.iv c0_i32_83 c1_i32_85 k0_t7
  let c128_i32 : BitVec 32 := 128#32
  let v101 : BitVec 32 := Scalar.muli arg21 c128_i32
  let v102 : BitVec 32 := Scalar.addi c0_i32_87 v101
  let v103 : BitVec 32 := Scalar.addi v102 c0_i32_88
  let v107 : Index := Scalar.indexCast v103
  ![v106.toNat, v107.toNat]
@[reducible] def k0_t8_loop : Scf.Loop 32 :=
  let c0_i32_77 : BitVec 32 := 0#32
  let c16_i32_78 : BitVec 32 := 16#32
  let v86 : BitVec 32 := Scalar.addi c0_i32_77 c16_i32_78
  let c1_i32_79 : BitVec 32 := 1#32
  ⟨c0_i32_77, v86, c1_i32_79⟩
@[reducible] def k0_t9_loop : Scf.Loop 32 :=
  let c0_i32_83 : BitVec 32 := 0#32
  let c8_i32_84 : BitVec 32 := 8#32
  let v99 : BitVec 32 := Scalar.addi c0_i32_83 c8_i32_84
  let c1_i32_85 : BitVec 32 := 1#32
  ⟨c0_i32_83, v99, c1_i32_85⟩
def k0_off8 (k0_t8 : Fin k0_t8_loop.trips) (k0_t9 : Fin k0_t9_loop.trips) (c0_i32_88 : BitVec 32) : Fin 2 → Nat :=
  let c0_i32_77 : BitVec 32 := 0#32
  let c1_i32_79 : BitVec 32 := 1#32
  let arg12 : BitVec 32 := Scf.iv c0_i32_77 c1_i32_79 k0_t8
  let v106 : Index := Scalar.indexCast arg12
  let c0_i32_87 : BitVec 32 := 0#32
  let c0_i32_83 : BitVec 32 := 0#32
  let c1_i32_85 : BitVec 32 := 1#32
  let arg21 : BitVec 32 := Scf.iv c0_i32_83 c1_i32_85 k0_t9
  let c128_i32 : BitVec 32 := 128#32
  let v101 : BitVec 32 := Scalar.muli arg21 c128_i32
  let v102 : BitVec 32 := Scalar.addi c0_i32_87 v101
  let v103 : BitVec 32 := Scalar.addi v102 c0_i32_88
  let v107 : Index := Scalar.indexCast v103
  ![v106.toNat, v107.toNat]
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_82 : BitVec 32 := 16#32
  let v98 : BitVec 32 := Scalar.muli v1 c16_i32_82
  ![v98.toNat]
abbrev grid1 : Pipeline.Grid := ⟨1, ![36], ![false]⟩

def k1_cond2 (i : grid1.Coords) : BitVec 1 :=
  let arg0 : BitVec 32 := BitVec.ofNat 32 (i 0).val
  let c35_i32 : BitVec 32 := 35#32
  let v43 : BitVec 1 := Scalar.cmpi .eq arg0 c35_i32
  let v44 : BitVec 32 := Scalar.extui v43
  let c0_i32_13 : BitVec 32 := 0#32
  let v45 : BitVec 1 := Scalar.cmpi .ne v44 c0_i32_13
  v45

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x1024 : Shape := ⟨3, ![4, 8192, 1024]⟩
abbrev S5 : Shape := ⟨1, ![5]⟩
abbrev S4 : Shape := ⟨1, ![4]⟩
abbrev S4x8192x1024x1 : Shape := ⟨4, ![4, 8192, 1024, 1]⟩
abbrev S1x1x1x4 : Shape := ⟨4, ![1, 1, 1, 4]⟩
abbrev S4x8192x1024x4 : Shape := ⟨4, ![4, 8192, 1024, 4]⟩
abbrev S_ : Shape := ⟨0, ![]⟩
abbrev S1 : Shape := ⟨1, ![1]⟩
abbrev S1x1x1x1 : Shape := ⟨4, ![1, 1, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S5, .f32⟩
  | .hbm, ⟨3, _⟩ => ⟨S4, .f32⟩
  | .hbm, ⟨4, _⟩ => ⟨S4x8192x1024x1, .f32⟩
  | .hbm, ⟨5, _⟩ => ⟨S1x1x1x4, .f32⟩
  | .hbm, ⟨6, _⟩ => ⟨S4x8192x1024x4, .f32⟩
  | .hbm, ⟨7, _⟩ => ⟨S4x8192x1024x4, .f32⟩
  | .hbm, ⟨8, _⟩ => ⟨S4x8192x1024x4, .i1⟩
  | .hbm, ⟨9, _⟩ => ⟨S4x8192x1024x4, .i32⟩
  | .hbm, ⟨10, _⟩ => ⟨S_, .i32⟩
  | .hbm, ⟨11, _⟩ => ⟨S4x8192x1024, .i32⟩
  | .hbm, ⟨12, _⟩ => ⟨S_, .i32⟩
  | .hbm, ⟨13, _⟩ => ⟨S4x8192x1024, .i32⟩
  | .hbm, ⟨14, _⟩ => ⟨S4x8192x1024, .i1⟩
  | .hbm, ⟨15, _⟩ => ⟨S_, .i32⟩
  | .hbm, ⟨16, _⟩ => ⟨S4x8192x1024, .i32⟩
  | .hbm, ⟨17, _⟩ => ⟨S4x8192x1024, .i32⟩
  | .hbm, ⟨18, _⟩ => ⟨S4x8192x1024, .i32⟩
  | .hbm, ⟨19, _⟩ => ⟨S4x8192x1024x1, .i32⟩
  | .hbm, ⟨20, _⟩ => ⟨S1, .i32⟩
  | .hbm, ⟨21, _⟩ => ⟨S_, .i32⟩
  | .hbm, ⟨22, _⟩ => ⟨S4x8192x1024x1, .i32⟩
  | .hbm, ⟨23, _⟩ => ⟨S4x8192x1024x1, .i1⟩
  | .hbm, ⟨24, _⟩ => ⟨S1x1x1x1, .i32⟩
  | .hbm, ⟨25, _⟩ => ⟨S4x8192x1024x1, .i32⟩
  | .hbm, ⟨26, _⟩ => ⟨S4x8192x1024x1, .i1⟩
  | .hbm, ⟨27, _⟩ => ⟨S4x8192x1024x1, .i1⟩
  | .hbm, ⟨28, _⟩ => ⟨S_, .i1⟩
  | .hbm, ⟨29, _⟩ => ⟨S4x8192x1024, .i1⟩
  | .hbm, ⟨30, _⟩ => ⟨S4x8192x1024, .f32⟩
  | .hbm, ⟨31, _⟩ => ⟨S_, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_cst_0 : Ref sig .tc := ⟨.hbm, 39, rfl⟩
abbrev main_v12 : Ref sig .tc := ⟨.hbm, 40, rfl⟩

abbrev nD : Nat := 1
abbrev τ : Topo := Topo.v7x

variable {F : FTy → Type} [FloatOps F]
-- ==== Proof.Setup.lean ====
/-
  The set-up every part of the proof shares: the program as the launch theorem sees it, the algebra of the
  launch's ghost state, and the buffers of the SparseCore's kernel by short names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Wmse

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program's pipelined call. -/
abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelined call's rounds, the transfers' counters -/

abbrev UH : Type := URounds (GSem nD τ sig) ℕ
abbrev UP : Type := URounds (GSem nD τ sig) Unit
abbrev UU : Type := UH × (UP × Counters)

/-- The tile that runs the task of coordinates `i`. -/
abbrev cV (i : grid0.Coords) : Fin τ.nSC := (i 0).castLE hcore0
abbrev jV (i : grid0.Coords) : Fin τ.nSub := (i 1).castLE hsub0

end Cert.Proof.Wmse

end
-- ==== Proof.TcBody.lean ====
/-
  The TensorCore's kernel at one grid point: what its body leaves in the running column sums and in the result, in the
  three kinds of points: the first one (the sums are cleared), one in the middle, and the last one (the total is stored).
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.WordCmp
public import Idealize.ShloMosaic.Lib.ValueIdx
public import Idealize.ShloMosaic.Lib.Pipeline.ValueKit.Tiles

@[expose] public section

set_option maxRecDepth 16384

noncomputable section

namespace Cert.Proof.Wmse

open Cert.KernelIdeal Cert.KernelIdeal.Gen

open Idealize.ShloMosaic Idealize.ShloMosaic.TcCoe Idealize.ShloMosaic.Tactic
open Idealize.ShloMosaic.ValueIdx (ix1 ix2)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The block's column sums added to what the scratch held. -/
def tcStep (x0 x1 : Vec F S512x1024 .f32) (x2 : Vec F S5 .f32) (x3 : Vec F S4 .f32) (acc : Vec F S8x128 .f32) : Vec F S8x128 .f32 :=
  k1_pay4 x1 x0 (x2 (ix1 0)) (x3 (ix1 0)) (x2 (ix1 1)) (x3 (ix1 1)) (x2 (ix1 2)) (x3 (ix1 2)) (x2 (ix1 3)) (x3 (ix1 3)) (x2 (ix1 4)) acc

/-- The body clears the sums. -/
abbrev first (i : grid1.Coords) : Prop := (Scalar.cmpi .ne (Scalar.extui (Scalar.cmpi .eq (BitVec.ofNat 32 (i 0).val) 0#32)) 0#32) = 1#1
/-- The body stores the total. -/
abbrev last (i : grid1.Coords) : Prop := k1_cond2 i = 1#1

theorem first_iff : ∀ t : Fin cfg1.N, first (grid1.coords t) ↔ t.val % 36 = 0 :=
  (fun t => by
    have ht : t.val < 36 := Nat.lt_of_lt_of_eq t.isLt N_1
    have e0 : (grid1.coords t 0).val = t.val / 1 % 36 := Pipeline.Grid.coords_val t 0 (by decide) rfl
    simp only [first, e0]
    word_cmp
   : ∀ t : Fin grid1.N, first (grid1.coords t) ↔ t.val % 36 = 0)

theorem last_iff : ∀ t : Fin cfg1.N, last (grid1.coords t) ↔ t.val % 36 = 35 :=
  (fun t => by
    have ht : t.val < 36 := Nat.lt_of_lt_of_eq t.isLt N_1
    have e0 : (grid1.coords t 0).val = t.val / 1 % 36 := Pipeline.Grid.coords_val t 0 (by decide) rfl
    simp only [last, k1_cond2, e0]
    word_cmp
   : ∀ t : Fin grid1.N, last (grid1.coords t) ↔ t.val % 36 = 35)

theorem hz1 : (![0] : Fin 1 → Nat) = fun _ => 0 := funext fun a => by fin_cases a; rfl
theorem hz2 : (![0, 0] : Fin 2 → Nat) = fun _ => 0 := funext fun a => by fin_cases a <;> rfl

/-- A load through a rectangle of unit strides reads the element at the offset. -/
theorem ld_word {S' : Shape} {e : EltTy} (X : S'.Idx → Elt F e) (off size : Fin S'.rank → Nat) (inb) (x : (Rect.unit off size inb).shape.Idx)
    (j : S'.Idx) (hj : ∀ a, (j a : Nat) = off a + x a) : View.ld (Val := Elt F) X (Rect.unit off size inb) x = X j :=
  congrArg X (funext fun a => Fin.ext ((Rect.idx_unit_val off size inb x a).trans (hj a).symm))

section Body

variable (c : Dev nD) (i : grid1.Coords) (arg1 : Memref sig .tc .vmem S512x1024 .f32) (harg1 : arg1.IsWhole) (arg2 : Memref sig .tc .vmem S512x1024 .f32) (harg2 : arg2.IsWhole) (arg3 : Memref sig .tc .smem S5 .f32) (harg3 : arg3.IsWhole) (arg4 : Memref sig .tc .smem S4 .f32) (harg4 : arg4.IsWhole) (arg5 : Memref sig .tc .smem S1 .f32) (harg5 : arg5.IsWhole) (arg6 : Memref sig .tc .vmem S8x128 .f32) (harg6 : arg6.IsWhole)
    (x0 : Vec F S512x1024 .f32) (x1 : Vec F S512x1024 .f32) (x2 : Vec F S5 .f32) (x3 : Vec F S4 .f32) (xs : Vec F S8x128 .f32)

/-- A point in the middle. -/
theorem body_mid (hc0 : ¬ first i) (hc1 : ¬ last i) (xi : Vec F S1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ owns (c : Thread nD τ) arg6 fullShare (tcStep x0 x1 x2 x3 xs)) -∗ K ⟨⟩))
      ⊢ wp frame (wpE (defs₀ (F := F)) Variants.none c none) E (cc1__tc_body i arg1 harg1 arg2 harg2 arg3 harg3 arg4 harg4 arg5 harg5 arg6 harg6) K := by
  simp only [cc1__tc_body_eq_skeleton]; unfold cc1__tc_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS0
  ipureintro
  refine (View.read_writes_eq_canon _ _ _ (fun y => View.cover_of_tiledL _ S8x128.size (by sl_kernel_rfl) y)).trans ?_
  sl_unfold_words
  rw [View.canon_unit_zero hz2]
  unfold tcStep k1_pay1
  simp only [View.readAt_eq_ld, harg1.read_unread, harg2.read_unread, harg3.read_unread, harg4.read_unread, harg6.read_unread, View.ld_unit_zero (S := S512x1024) hz2, View.ld_unit_zero (S := S8x128) hz2, shapeCast_self]
  congr 1 <;> exact ld_word _ _ _ _ _ _ (fun a => by fin_cases a; rfl)

/-- The first point: what the scratch held does not matter. -/
theorem body_first (hc0 : first i) (hc1 : ¬ last i) (xi : Vec F S1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ owns (c : Thread nD τ) arg6 fullShare (tcStep x0 x1 x2 x3 (k1_pay3 (F := F)))) -∗ K ⟨⟩))
      ⊢ wp frame (wpE (defs₀ (F := F)) Variants.none c none) E (cc1__tc_body i arg1 harg1 arg2 harg2 arg3 harg3 arg4 harg4 arg5 harg5 arg6 harg6) K := by
  simp only [cc1__tc_body_eq_skeleton]; unfold cc1__tc_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS0
  ipureintro
  refine (View.read_writes_eq_canon _ _ _ (fun y => View.cover_of_tiledL _ S8x128.size (by sl_kernel_rfl) y)).trans ?_
  sl_unfold_words
  rw [View.canon_cons_unit_zero (S := S8x128) hz2, View.readCov_unit_zero (S := S8x128) _ hz2]
  unfold tcStep k1_pay1
  simp only [View.readAt_eq_ld, harg1.read_unread, harg2.read_unread, harg3.read_unread, harg4.read_unread, View.ld_unit_zero (S := S512x1024) hz2, View.ld_unit_zero (S := S8x128) hz2, shapeCast_self]
  congr 1 <;> exact ld_word _ _ _ _ _ _ (fun a => by fin_cases a; rfl)

/-- The last point. -/
theorem body_last (hc0 : ¬ first i) (hc1 : last i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (fun _ => k1_pay2 (tcStep x0 x1 x2 x3 xs)) ∗ owns (c : Thread nD τ) arg6 fullShare (tcStep x0 x1 x2 x3 xs)) -∗ K ⟨⟩))
      ⊢ wp frame (wpE (defs₀ (F := F)) Variants.none c none) E (cc1__tc_body i arg1 harg1 arg2 harg2 arg3 harg3 arg4 harg4 arg5 harg5 arg6 harg6) K := by
  simp only [cc1__tc_body_eq_skeleton]; unfold cc1__tc_body_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg1.eq_unread hf0; obtain rfl := harg2.eq_unread hf1; obtain rfl := harg3.eq_unread hf2; obtain rfl := harg4.eq_unread hf3; obtain rfl := harg6.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (View.read_writes_eq_canon _ _ _ (fun y => View.cover_of_tiledL _ S1.size (by sl_kernel_rfl) y)).trans ?_
    sl_unfold_words
    rw [View.canon_unit_zero hz1]
    rw [View.readCov_unit_zero (S := S8x128) _ hz2]
    refine funext fun _ => congrArg _ ?_
    unfold tcStep k1_pay1
    simp only [View.readAt_eq_ld, harg1.read_unread, harg2.read_unread, harg3.read_unread, harg4.read_unread, harg6.read_unread, View.ld_unit_zero (S := S512x1024) hz2, View.ld_unit_zero (S := S8x128) hz2, shapeCast_self]
    congr 1 <;> exact ld_word _ _ _ _ _ _ (fun a => by fin_cases a; rfl)
  iexists _; isplitr
  swap; · iexact HS0
  ipureintro
  refine (View.read_writes_eq_canon _ _ _ (fun y => View.cover_of_tiledL _ S8x128.size (by sl_kernel_rfl) y)).trans ?_
  sl_unfold_words
  rw [View.canon_unit_zero hz2]
  unfold tcStep k1_pay1
  simp only [View.readAt_eq_ld, harg1.read_unread, harg2.read_unread, harg3.read_unread, harg4.read_unread, harg6.read_unread, View.ld_unit_zero (S := S512x1024) hz2, View.ld_unit_zero (S := S8x128) hz2, shapeCast_self]
  congr 1 <;> exact ld_word _ _ _ _ _ _ (fun a => by fin_cases a; rfl)

end Body

end Cert.Proof.Wmse

end
-- ==== Proof.Tc.lean ====
/-
  The TensorCore's region: the 36 grid points in a row, from the contents the host left, to the result holding the total
  of the running column sums after the last point.
-/
module

public import proofs.«01_k».proof.Proof.TcBody
public import Idealize.ShloMosaic.Lib.Pipeline.RegionsLoop

@[expose] public section

set_option maxRecDepth 16384

noncomputable section

namespace Cert.Proof.Wmse

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The pipelined call has no table to admit. -/
abbrev adm : (p : Fin 1) → (pcfgs (F := F) p).Adm := fun p => (cfgs p).toPCfg_adm

variable (V : (c : Dev nD) → (b : Ref sig .tc) → Buf (Elt F) ((c : Thread nD τ).loc b))

/-- A window's block at point `t`, read off the contents the region is entered with. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The column sums after the body at point `n`. -/
def tcAcc (c : Dev nD) : (n : ℕ) → n < cfg1.N → Vec F S8x128 .f32
  | 0, hn => tcStep (iblk V c 0 ⟨0, hn⟩) (iblk V c 1 ⟨0, hn⟩) (iblk V c 2 ⟨0, hn⟩) (iblk V c 3 ⟨0, hn⟩) (k1_pay3 (F := F))
  | n + 1, hn => tcStep (iblk V c 0 ⟨n + 1, hn⟩) (iblk V c 1 ⟨n + 1, hn⟩) (iblk V c 2 ⟨n + 1, hn⟩) (iblk V c 3 ⟨n + 1, hn⟩)
      (tcAcc c n (Nat.lt_of_succ_lt hn))

/-- The scratch before point `n`: at anything before the first, at the sums so far afterwards. -/
def scratchAt (c : Dev nD) : (n : ℕ) → n ≤ cfg1.N → sProp 𝕄
  | 0, _ => iprop(∃ d, owns (c : Thread nD τ) (Memref.whole cc1_scratch0) fullShare d)
  | n + 1, hn => owns (c : Thread nD τ) (Memref.whole cc1_scratch0) fullShare (tcAcc V c n hn)

theorem scratchAt_pos (c : Dev nD) (n : ℕ) (h : n ≤ cfg1.N) (hz : n ≠ 0) :
    scratchAt V c n h = owns (c : Thread nD τ) (Memref.whole cc1_scratch0) fullShare (tcAcc V c (n - 1) (by omega)) := by
  cases n with
  | zero => exact absurd rfl hz
  | succ n => rfl

/-- The waits the core may have recorded when it enters the region: those of the call before it. -/
abbrev recd (b : ℕ) (c : Dev nD) : Set (SemLoc sig × HIx 1) := {p | (K (F := F)).lev ((c : Thread nD τ), p.1) p.2 ≤ b}

/-- The proof data of the region. -/
def dat (b : ℕ) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => fun _ => k1_pay2 (tcAcc V c t.val t.isLt)
  Φ t := scratchAt V c t.val (Nat.le_of_lt_succ t.isLt)
  q _ := fullShare
  owed _ := 0
  recorded _ := recd (F := F) b c

section Point

variable (b : ℕ) (c : Dev nD)

theorem A_eq (w : Fin cfg1.W) : (dat V b c).A w = V c (Pipeline.arrRef spec1 w) := by dsimp only [dat]

theorem after_0 (t : Fin cfg1.N) : (dat V b c).after 0 t = iblk V c 0 t := by dsimp only [dat]
theorem after_1 (t : Fin cfg1.N) : (dat V b c).after 1 t = iblk V c 1 t := by dsimp only [dat]
theorem after_2 (t : Fin cfg1.N) : (dat V b c).after 2 t = iblk V c 2 t := by dsimp only [dat]
theorem after_3 (t : Fin cfg1.N) : (dat V b c).after 3 t = iblk V c 3 t := by dsimp only [dat]
theorem after_4 (t : Fin cfg1.N) : (dat V b c).after 4 t = fun _ => k1_pay2 (tcAcc V c t.val t.isLt) := by dsimp only [dat]

/-- Each input's staging buffer holds the point's block when the body runs. -/
theorem before_0 (t : Fin cfg1.N) (d) : (dat V b c).before 0 t d = iblk V c 0 t :=
  ((dat V b c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg1.N) (d) : (dat V b c).before 1 t d = iblk V c 1 t :=
  ((dat V b c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg1.N) (d) : (dat V b c).before 2 t d = iblk V c 2 t :=
  ((dat V b c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg1.N) (d) : (dat V b c).before 3 t d = iblk V c 3 t :=
  ((dat V b c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem live_0 (t : Fin cfg1.N) : cfg1.idle 0 (grid1.coords t) = false := rfl
theorem live_1 (t : Fin cfg1.N) : cfg1.idle 1 (grid1.coords t) = false := rfl
theorem live_2 (t : Fin cfg1.N) : cfg1.idle 2 (grid1.coords t) = false := rfl
theorem live_3 (t : Fin cfg1.N) : cfg1.idle 3 (grid1.coords t) = false := rfl
/-- The result's window is idle except at the last point, where it is written back. -/
theorem idle_4 : ∀ t : Fin cfg1.N, t.val % 36 ≠ 35 → cfg1.idle 4 (grid1.coords t) = true := by decide +kernel
theorem live_4 : ∀ t : Fin cfg1.N, t.val % 36 = 35 → cfg1.idle 4 (grid1.coords t) = false := by decide +kernel
theorem noFlush_4 (t : Fin cfg1.N) (h : t.val % 36 ≠ 35) : (cfg1.win 4).flush t = false := by
  cases e : (cfg1.win 4).flush t
  · rfl
  · exact absurd ((flush1_4 t).mp e) h

theorem scratchAt_castSucc (t : Fin cfg1.N) : (dat V b c).Φ t.castSucc = scratchAt V c t.val (Nat.le_of_lt t.isLt) := by
  dsimp only [dat]; exact Pipeline.Dat.Φ_castSucc (scratchAt V c) t

def pointPre (t : Fin cfg1.N) : sProp 𝕄 :=
  iprop((dat V b c).Φ t.castSucc ∗ (dat V b c).owesAt none t.castSucc
    ∗ (∃ d, owns (c : Thread nD τ) (st1_0 t) fullShare ((dat V b c).before 0 t d))
    ∗ (∃ d, owns (c : Thread nD τ) (st1_1 t) fullShare ((dat V b c).before 1 t d))
    ∗ (∃ d, owns (c : Thread nD τ) (st1_2 t) fullShare ((dat V b c).before 2 t d))
    ∗ (∃ d, owns (c : Thread nD τ) (st1_3 t) fullShare ((dat V b c).before 3 t d))
    ∗ (∃ d, owns (c : Thread nD τ) (st1_4 t) fullShare ((dat V b c).before 4 t d)))

def pointPost (t : Fin cfg1.N) : sProp 𝕄 :=
  iprop((dat V b c).Φ t.succ ∗ (dat V b c).owesAt none t.succ
    ∗ (dat V b c).leavesExact 0 t ∗ (dat V b c).leavesExact 1 t ∗ (dat V b c).leavesExact 2 t ∗ (dat V b c).leavesExact 3 t ∗ (dat V b c).leavesExact 4 t)

set_option maxHeartbeats 1600000 in
/-- The body at any point. -/
theorem point (t : Fin cfg1.N) :
    pointPre V b c t ⊢ wp frame (wpE (defs₀ (F := F)) Variants.none c none) Set.univ (bodyAt1 t) (fun _ => pointPost V b c t) := by
  unfold pointPre pointPost bodyAt1
  simp only [before_0, before_1, before_2, before_3]
  rw [show (dat V b c).owesAt none t.succ = (dat V b c).owesAt none t.castSucc from rfl]
  rw [show (dat V b c).Φ t.succ = owns (c : Thread nD τ) (Memref.whole cc1_scratch0) fullShare (tcAcc V c t.val t.isLt) from rfl]
  rw [show (dat V b c).leavesExact 0 t = owns (c : Thread nD τ) (st1_0 t) fullShare ((dat V b c).after 0 t) from by
    unfold Dat.leavesExact; rw [live_0 t], after_0]
  rw [show (dat V b c).leavesExact 1 t = owns (c : Thread nD τ) (st1_1 t) fullShare ((dat V b c).after 1 t) from by
    unfold Dat.leavesExact; rw [live_1 t], after_1]
  rw [show (dat V b c).leavesExact 2 t = owns (c : Thread nD τ) (st1_2 t) fullShare ((dat V b c).after 2 t) from by
    unfold Dat.leavesExact; rw [live_2 t], after_2]
  rw [show (dat V b c).leavesExact 3 t = owns (c : Thread nD τ) (st1_3 t) fullShare ((dat V b c).after 3 t) from by
    unfold Dat.leavesExact; rw [live_3 t], after_3]
  have hN : t.val < 36 := lt_of_lt_of_eq t.isLt (show cfg1.N = 36 from N_1)
  by_cases h0 : t.val % 36 = 0
  · have h1 : t.val % 36 ≠ 35 := by omega
    have hz : t.val = 0 := by omega
    have hc0 : first (grid1.coords t) := (first_iff t).mpr h0
    have hc1 : ¬ last (grid1.coords t) := fun h => h1 ((last_iff t).mp h)
    rw [Dat.leavesExact_idle (dat V b c) 4 t (idle_4 t h1) (noFlush_4 t h1), scratchAt_castSucc]
    obtain ⟨n, hn⟩ := t
    obtain rfl : n = 0 := hz
    rw [show scratchAt V c 0 _ = iprop(∃ d, owns (c : Thread nD τ) (Memref.whole cc1_scratch0) fullShare d) from rfl]
    iintro ⟨HS0, Ho, ⟨%d0, H0⟩, ⟨%d1, H1⟩, ⟨%d2, H2⟩, ⟨%d3, H3⟩, ⟨%d4, H4⟩⟩
    iapply (body_first c (grid1.coords ⟨0, hn⟩) _ _ _ _ _ _ _ _ _ _ _ _ (iblk V c 0 ⟨0, hn⟩) (iblk V c 1 ⟨0, hn⟩) (iblk V c 2 ⟨0, hn⟩) (iblk V c 3 ⟨0, hn⟩) hc0 hc1 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0]; · iexact HS0
    isplitl [Ho]; · iexact Ho
    isplitl [H0]; · iexact H0
    isplitl [H1]; · iexact H1
    isplitl [H2]; · iexact H2
    isplitl [H3]; · iexact H3
    iexists _; iexact H4
  · have hc0 : ¬ first (grid1.coords t) := fun h => h0 ((first_iff t).mp h)
    have hz : t.val ≠ 0 := by omega
    rw [scratchAt_castSucc, scratchAt_pos V c _ _ hz]
    have hacc : tcAcc V c t.val t.isLt = tcStep (iblk V c 0 t) (iblk V c 1 t) (iblk V c 2 t) (iblk V c 3 t) (tcAcc V c (t.val - 1) (by omega)) := by
      obtain ⟨n, hn⟩ := t
      cases n with
      | zero => exact absurd rfl hz
      | succ n => rfl
    rw [hacc]
    by_cases h1 : t.val % 36 = 35
    · have hc1 : last (grid1.coords t) := (last_iff t).mpr h1
      rw [show (dat V b c).leavesExact 4 t = owns (c : Thread nD τ) (st1_4 t) fullShare ((dat V b c).after 4 t) from by
        unfold Dat.leavesExact; rw [live_4 t h1], after_4, hacc]
      iintro ⟨HS0, Ho, ⟨%d0, H0⟩, ⟨%d1, H1⟩, ⟨%d2, H2⟩, ⟨%d3, H3⟩, ⟨%d4, H4⟩⟩
      iapply (body_last c (grid1.coords t) _ _ _ _ _ _ _ _ _ _ _ _ (iblk V c 0 t) (iblk V c 1 t) (iblk V c 2 t) (iblk V c 3 t) _ hc0 hc1 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0]; · iexact HS0
      isplitl [Ho]; · iexact Ho
      isplitl [H0]; · iexact H0
      isplitl [H1]; · iexact H1
      isplitl [H2]; · iexact H2
      isplitl [H3]; · iexact H3
      iexact H4
    · have hc1 : ¬ last (grid1.coords t) := fun h => h1 ((last_iff t).mp h)
      rw [Dat.leavesExact_idle (dat V b c) 4 t (idle_4 t h1) (noFlush_4 t h1)]
      iintro ⟨HS0, Ho, ⟨%d0, H0⟩, ⟨%d1, H1⟩, ⟨%d2, H2⟩, ⟨%d3, H3⟩, ⟨%d4, H4⟩⟩
      iapply (body_mid c (grid1.coords t) _ _ _ _ _ _ _ _ _ _ _ _ (iblk V c 0 t) (iblk V c 1 t) (iblk V c 2 t) (iblk V c 3 t) _ hc0 hc1 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0]; · iexact HS0
      isplitl [Ho]; · iexact Ho
      isplitl [H0]; · iexact H0
      isplitl [H1]; · iexact H1
      isplitl [H2]; · iexact H2
      isplitl [H3]; · iexact H3
      iexists _; iexact H4

theorem defs₀_row (t : Fin cfg1.N) : defs₀ (F := F) .tc cfg1.body (cfg1.bodyArgs t (cfg1.slots t)) = bodyAt1 t := by
  rfl

theorem body_obligation : BodyObligation (dat V b c) (defs₀ (F := F)) Variants.none none Set.univ := fun t => by
  rw [bigSep_W1, bigSep_W1, defs₀_row]
  exact triple_restated (point V b c t) rfl .rfl fun _ => .rfl

/-- The grid's last point. -/
def tLast : Fin cfg1.N := ⟨35, lt_of_lt_of_eq (by decide) (show cfg1.N = 36 from N_1).symm⟩

/-- What the result's array holds after the region. -/
def tcOut : S1.Idx → Elt F .f32 := fun _ => k1_pay2 (tcAcc V c 35 tLast.isLt)

theorem flushed_eq (t : Fin cfg1.N) (hf : (cfg1.win 4).flush t = true) :
    (dat V b c).flushed 4 t = ((cfg1.win 4).blk t).view.read (Elt F) (tcOut V c) := by
  have hN : t.val < 36 := lt_of_lt_of_eq t.isLt (show cfg1.N = 36 from N_1)
  have h3 : t.val = 35 := by have := (flush1_4 t).mp hf; omega
  obtain rfl : t = tLast := Fin.ext h3
  show (cfg1.win 4).cut (grid1.coords tLast) ((dat V b c).after 4 tLast) = _
  rw [after_4]
  rfl

theorem final_out : (dat V b c).arrAt 4 cfg1.N = tcOut V c :=
  (dat V b c).arrAt_eq_of_cover 4 (tcOut V c) (flushed_eq V b c) fun i =>
    ⟨tLast, (flush1_4 tLast).mpr rfl, by
      show i ∈ ((View.whole main_v9).slice (win1_4.rect tLast)).set
      rw [View.set_slice_whole, Rect.mem_set_unit]
      intro a
      have h0 : (i 0 : Nat) < 1 := (i 0).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 1 from by decide +kernel]; omega⟩

end Point

/-! ## The region between the host's operations -/

/-- The proof data of the program's pipelined calls: there is one. -/
def dats (b : ℕ) : (p : Fin 1) → (c : Dev nD) → Dat τ (Elt F) (HIx 1) ℕ UU ℕ (Pipeline.pin (pcfgs (F := F)) adm p) c
  | ⟨0, _⟩ => fun c => dat V b c

variable (V' : (c : Dev nD) → (b : Ref sig .tc) → Buf (Elt F) ((c : Thread nD τ).loc b))

/-- What the core owes, its recorded waits at or below a level. -/
abbrev owesBelow (b : ℕ) (c : Dev nD) : sProp 𝕄 :=
  iprop(∃ W, ⌜(K (F := F)).WBelow (c : Thread nD τ) W b⌝ ∗ owes (c : Thread nD τ) (0 : CellTallies nD τ sig (HIx 1)) W)

set_option backward.isDefEq.respectTransparency.types false in
/-- The region, entered from the unscoped buffers at `V` and left with them at `V'`: the same but for the result. -/
def region (b : ℕ) (hout : ∀ c, V' c main_v9 = tcOut V c) (hne : ∀ c (r : Ref sig .tc), r ≠ main_v9 → V' c r = V c r) :
    Pipeline.RegionSeg (pcfgs (F := F)) adm (dats V b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ _ _ 0 fun _ _ => rfl
  pre c := iprop(unscopedBufs c (V c) ∗ owesBelow b c)
  post c := iprop(unscopedBufs c (V' c) ∗ owesBelow b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (dats V b) launch1.win launch1.arr_whole c
      ((dats V b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V b 0 c).Φ 0 = iprop(∃ d, owns (c : Thread nD τ) (Memref.whole cc1_scratch0) fullShare d) from rfl]
    show _ ∗ _ ∗ Pipeline.scopedRest spec1 c ⊢ _
    rw [scopedRest1_eq]
    simp only [owns_whole]
    iintro ⟨-, -, Hr⟩; iexact Hr
  hout c := by
    rw [Pipeline.ownSems0_none, show (dats V b 0 c).Φ (Fin.last _) = owns (c : Thread nD τ) (Memref.whole cc1_scratch0) fullShare (tcAcc V c 35 tLast.isLt) from rfl]
    show _ ⊢ _ ∗ _ ∗ Pipeline.scopedRest spec1 c
    rw [scopedRest1_eq]
    simp only [owns_whole]
    iintro Hr
    isplitr; · iempintro
    isplitr; · iempintro
    iexists _; iexact Hr
  hexit c := by
    have hjoin := Pipeline.unscopedBufs_of_arrays (p := 0) (pcfgs (F := F)) adm (Ix := HIx 1) (Name := ℕ) (U := UU) (Lvl := ℕ) launch1.win launch1.arr_whole c
      (dats V b) ((dats V b 0 c).share_full fun _ => rfl) (V c) (V' c) ((dats V b 0 c).arrAt · cfg1.N)
      (fun w => by
        fin_cases w
        · exact ((dats V b 0 c).arrAt_in 0 rfl _).trans (hne c main_v0 (by decide)).symm
        · exact ((dats V b 0 c).arrAt_in 1 rfl _).trans (hne c main_v1 (by decide)).symm
        · exact ((dats V b 0 c).arrAt_in 2 rfl _).trans (hne c main_arg2 (by decide)).symm
        · exact ((dats V b 0 c).arrAt_in 3 rfl _).trans (hne c main_arg3 (by decide)).symm
        · exact (final_out V b c).trans (hout c).symm)
      (fun r hr => hne c r fun h => hr (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Wmse

end
-- ==== Proof.Rows.lean ====
/-
  One chunk's sum on a tile: sixteen rows of 1024 columns, read sixteen lanes at a time into eight accumulators.
  The loops that do it are the same four times over (two slots, in the main loop and after it); here they are one
  program over the two slots' views, and its run is stated once.
-/
module

public import proofs.«01_k».proof.Proof.Setup

@[expose] public section

noncomputable section

namespace Cert.Proof.Wmse

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The four thresholds and the five weights, each spread over the sixteen lanes. -/
structure Consts (F : FTy → Type) where
  t0 : FVec F S16 .f32
  t1 : FVec F S16 .f32
  t2 : FVec F S16 .f32
  t3 : FVec F S16 .f32
  w0 : FVec F S16 .f32
  w1 : FVec F S16 .f32
  w2 : FVec F S16 .f32
  w3 : FVec F S16 .f32
  w4 : FVec F S16 .f32

/-- The eight accumulators. -/
abbrev Acc (F : FTy → Type) : Type :=
  FVec F S16 .f32 × FVec F S16 .f32 × FVec F S16 .f32 × FVec F S16 .f32 × FVec F S16 .f32 × FVec F S16 .f32 × FVec F S16 .f32 × FVec F S16 .f32

section Values

variable [FloatOps F]

/-- One accumulator after sixteen more elements: the weight that the target selects times the squared difference, added. -/
def stepV (W : Consts F) (a : FVec F S16 .f32) (p t : Vec F S1x16 .f32) : FVec F S16 .f32 :=
  let t' : FVec F S16 .f32 := shapeCast S16 t shapeCasts_S1x16_S16
  let d : FVec F S16 .f32 := subf (shapeCast S16 p shapeCasts_S1x16_S16) t'
  addf a (mulf (select (cmpf .oge t' W.t3) W.w4 (select (cmpf .oge t' W.t2) W.w3 (select (cmpf .oge t' W.t1) W.w2
    (select (cmpf .oge t' W.t0) W.w1 W.w0)))) (mulf d d))

/-- The rectangle of sixteen lanes at an offset. -/
abbrev laneRect (o : Fin 2 → ℕ) (h : ∀ a, o a + S1x16.size a ≤ S16x1024.size a) : Rect S16x1024 := Rect.unit (s := S16x1024) o S1x16.size h

/-- The accumulators after one trip of the inner loop: 128 columns of a row, sixteen for each accumulator. -/
def unitStep (W : Consts F) (off : Fin 8 → Fin 2 → ℕ) (inb : ∀ r a, off r a + S1x16.size a ≤ S16x1024.size a)
    (p t : S16x1024.Idx → Elt F .f32) : Acc F → Acc F :=
  fun (a0, a1, a2, a3, a4, a5, a6, a7) =>
    let st (r : Fin 8) (a : FVec F S16 .f32) : FVec F S16 .f32 :=
      stepV W a (fun x => p ((laneRect (off r) (inb r)).toLoadRect.idx x)) (fun x => t ((laneRect (off r) (inb r)).toLoadRect.idx x))
    (st 0 a0, st 1 a1, st 2 a2, st 3 a3, st 4 a4, st 5 a5, st 6 a6, st 7 a7)

/-- Where the sixteen lanes of accumulator `r` lie in trip `n` of the inner loop: row `n / 8`, columns from `128 (n % 8) + 16 r`. -/
abbrev offU (n : ℕ) (r : Fin 8) : Fin 2 → ℕ := ![n / 8 % 16, 128 * (n % 8) + 16 * r.val]

theorem offU_inb (n : ℕ) (r : Fin 8) : ∀ a, offU n r a + S1x16.size a ≤ S16x1024.size a := by
  have h1 : n / 8 % 16 < 16 := Nat.mod_lt _ (by decide)
  have h2 : n % 8 < 8 := Nat.mod_lt _ (by decide)
  have h3 := r.isLt
  intro a
  fin_cases a
  · show n / 8 % 16 + 1 ≤ 16; omega
  · show 128 * (n % 8) + 16 * r.val + 16 ≤ 1024; omega

/-- The accumulators after `n` trips of the inner loop, eight of them to a row. -/
def unitsFold (W : Consts F) (p t : S16x1024.Idx → Elt F .f32) : ℕ → Acc F → Acc F
  | 0, a => a
  | n + 1, a => unitStep W (offU n) (offU_inb n) p t (unitsFold W p t n a)

theorem unitStep_congr (W : Consts F) {off off' : Fin 8 → Fin 2 → ℕ} (inb : ∀ r a, off r a + S1x16.size a ≤ S16x1024.size a)
    (inb' : ∀ r a, off' r a + S1x16.size a ≤ S16x1024.size a) (h : off = off') (p t : S16x1024.Idx → Elt F .f32) :
    unitStep W off inb p t = unitStep W off' inb' p t := by subst h; rfl

end Values

/-- A slot's view, at the thread of tile `(cc, jj)`, holding `X`. -/
def holds (d : Dev nD) (i : grid0.Coords) (p : Memref sig .scVector .vmem S16x1024 .f32) (X : S16x1024.Idx → Elt F .f32) : sProp 𝕄 :=
  iprop(∃ f, ⌜p.view.read (Elt F) f = X⌝ ∗ (p.view.loc (V d (cV i) (jV i)) ↦[p.view.set]{fullShare} f))

variable [FloatOps F]

abbrev wpT (d : Dev nD) (i : grid0.Coords) {α : Type} (e : Prog (TpuEff nD τ sig (Elt F) Λ₀ (.scVector (cV i) (jV i))) α) (Φ : α → sProp 𝕄) : sProp 𝕄 :=
  wp frame (wpE (defs₀ (F := F)) 𝒱₀ (V d (cV i) (jV i)) none) Set.univ e Φ

theorem wp_lift_load (d : Dev nD) (i : grid0.Coords) {s : Shape} {e : EltTy} {cs : CoreSpace} (p : Memref sig .scVector cs s e) (r : LoadRect s) (hl : p.view.LoadsAt r)
    {S : Finset (Idx (p.view.loc (V d (cV i) (jV i))))} {q : PosShare TreeShare} {f : Buf (Elt F) (p.view.loc (V d (cV i) (jV i)))}
    (hS : p.view.setOn r.set ⊆ S) (Φ : (r.shape.Idx → Elt F e) → sProp 𝕄) :
    (p.view.loc (V d (cV i) (jV i)) ↦[S]{q} f)
      ⊢ iprop(((p.view.loc (V d (cV i) (jV i)) ↦[S]{q} f) -∗ Φ (p.view.readAt (Elt F) r f)) -∗ wpT d i (Prog.lift (.load p r hl)) Φ) := by
  iintro Hp HΦ
  iapply (wp_load (c := V d (cV i) (jV i)) 𝒱₀ none Set.univ (k := Prog.ret) (hl := hl) hS) $$ Hp
  iintro Hp
  rw [wp_ret]; imodintro
  iapply HΦ; iexact Hp

/-! ## The loops as one program -/

variable (i : grid0.Coords)

/-- Sixteen lanes loaded off a slot. -/
abbrev loadL (p : Memref sig .scVector .vmem S16x1024 .f32) (o : Fin 2 → ℕ) (h : ∀ a, o a + S1x16.size a ≤ S16x1024.size a) :
    Prog (TpuEff nD τ sig (Elt F) Λ₀ (.scVector (cV i) (jV i))) (Vec F S1x16 .f32) :=
  Prog.lift (.load p (laneRect o h).toLoadRect (View.loadsAt_vmem h_S1x16))

/-- One trip of the inner loop. -/
def unitProg (W : Consts F) (p t : Memref sig .scVector .vmem S16x1024 .f32) (off : Fin 8 → Fin 2 → ℕ)
    (inb : ∀ r a, off r a + S1x16.size a ≤ S16x1024.size a) :
    Acc F → Prog (TpuEff nD τ sig (Elt F) Λ₀ (.scVector (cV i) (jV i))) (Acc F) :=
  fun (a0, a1, a2, a3, a4, a5, a6, a7) => do
    let x0 ← loadL i p (off 0) (inb 0)
    let y0 ← loadL i t (off 0) (inb 0)
    let x1 ← loadL i p (off 1) (inb 1)
    let y1 ← loadL i t (off 1) (inb 1)
    let x2 ← loadL i p (off 2) (inb 2)
    let y2 ← loadL i t (off 2) (inb 2)
    let x3 ← loadL i p (off 3) (inb 3)
    let y3 ← loadL i t (off 3) (inb 3)
    let x4 ← loadL i p (off 4) (inb 4)
    let y4 ← loadL i t (off 4) (inb 4)
    let x5 ← loadL i p (off 5) (inb 5)
    let y5 ← loadL i t (off 5) (inb 5)
    let x6 ← loadL i p (off 6) (inb 6)
    let y6 ← loadL i t (off 6) (inb 6)
    let x7 ← loadL i p (off 7) (inb 7)
    let y7 ← loadL i t (off 7) (inb 7)
    pure (stepV W a0 x0 y0, stepV W a1 x1 y1, stepV W a2 x2 y2, stepV W a3 x3 y3, stepV W a4 x4 y4, stepV W a5 x5 y5, stepV W a6 x6 y6, stepV W a7 x7 y7)

/-- The sixteen rows. -/
def rowsProg (W : Consts F) (p t : Memref sig .scVector .vmem S16x1024 .f32) (a : Acc F) :
    Prog (TpuEff nD τ sig (Elt F) Λ₀ (.scVector (cV i) (jV i))) (Acc F) :=
  Scf.Loop.for k0_t2_loop k0_t2_ok a fun t2 a =>
    Scf.Loop.for k0_t3_loop k0_t3_ok a (fun t3 => unitProg i W p t (fun r => k0_off3 t2 t3 (BitVec.ofNat 32 (16 * r.val))) (k0_off3_inb t2 t3))
      >>= fun b => Pure.pure b

theorem setOn_sub {s : Shape} {e : EltTy} {cs : CoreSpace} (p : Memref sig .scVector cs s e) (r : LoadRect s) : p.view.setOn r.set ⊆ p.view.set :=
  p.view.setOn_subset_set _

theorem unit_run (d : Dev nD) (W : Consts F) (p t : Memref sig .scVector .vmem S16x1024 .f32) (off : Fin 8 → Fin 2 → ℕ)
    (inb : ∀ r a, off r a + S1x16.size a ≤ S16x1024.size a) (X Y : S16x1024.Idx → Elt F .f32) (a : Acc F) :
    iprop(holds d i p X ∗ holds d i t Y)
      ⊢ wpT d i (unitProg i W p t off inb a) fun b => iprop(⌜b = unitStep W off inb X Y a⌝ ∗ holds d i p X ∗ holds d i t Y) := by
  obtain ⟨a0, a1, a2, a3, a4, a5, a6, a7⟩ := a
  unfold holds
  iintro ⟨⟨%f, %hf, Hp⟩, ⟨%g, %hg, Ht⟩⟩
  simp only [unitProg, wpT, wp_bind, loadL]
  iapply (wp_lift_load d i p _ _ (setOn_sub p _)) $$ Hp; iintro Hp
  iapply (wp_lift_load d i t _ _ (setOn_sub t _)) $$ Ht; iintro Ht
  iapply (wp_lift_load d i p _ _ (setOn_sub p _)) $$ Hp; iintro Hp
  iapply (wp_lift_load d i t _ _ (setOn_sub t _)) $$ Ht; iintro Ht
  iapply (wp_lift_load d i p _ _ (setOn_sub p _)) $$ Hp; iintro Hp
  iapply (wp_lift_load d i t _ _ (setOn_sub t _)) $$ Ht; iintro Ht
  iapply (wp_lift_load d i p _ _ (setOn_sub p _)) $$ Hp; iintro Hp
  iapply (wp_lift_load d i t _ _ (setOn_sub t _)) $$ Ht; iintro Ht
  iapply (wp_lift_load d i p _ _ (setOn_sub p _)) $$ Hp; iintro Hp
  iapply (wp_lift_load d i t _ _ (setOn_sub t _)) $$ Ht; iintro Ht
  iapply (wp_lift_load d i p _ _ (setOn_sub p _)) $$ Hp; iintro Hp
  iapply (wp_lift_load d i t _ _ (setOn_sub t _)) $$ Ht; iintro Ht
  iapply (wp_lift_load d i p _ _ (setOn_sub p _)) $$ Hp; iintro Hp
  iapply (wp_lift_load d i t _ _ (setOn_sub t _)) $$ Ht; iintro Ht
  iapply (wp_lift_load d i p _ _ (setOn_sub p _)) $$ Hp; iintro Hp
  iapply (wp_lift_load d i t _ _ (setOn_sub t _)) $$ Ht; iintro Ht
  rw [wp_pure]; imodintro
  isplitr
  · ipureintro; subst hf hg; rfl
  isplitl [Hp]
  · iexists f; isplitr; · ipureintro; exact hf
    iexact Hp
  · iexists g; isplitr; · ipureintro; exact hg
    iexact Ht

/-- A chunk's sum: the rows' loop takes the accumulators through all 128 trips. -/
theorem rows_run (d : Dev nD) (W : Consts F) (p t : Memref sig .scVector .vmem S16x1024 .f32) (X Y : S16x1024.Idx → Elt F .f32) (a : Acc F) :
    iprop(holds d i p X ∗ holds d i t Y)
      ⊢ wpT d i (rowsProg i W p t a) fun b => iprop(⌜b = unitsFold W X Y 128 a⌝ ∗ holds d i p X ∗ holds d i t Y) := by
  have hoff (k : Fin k0_t2_loop.trips) (k' : Fin k0_t3_loop.trips) :
      (fun r : Fin 8 => k0_off3 k k' (BitVec.ofNat 32 (16 * r.val))) = offU (8 * k.val + k'.val) := by
    have hk : k.val < 16 := k.isLt
    have hk' : k'.val < 8 := k'.isLt
    funext r
    rw [k0_off3_eq]
    simp only [offU]
    rw [show (8 * k.val + k'.val) / 8 % 16 = k.val by omega, show (8 * k.val + k'.val) % 8 = k'.val by omega]
  refine Idealize.SL.BI.BIBase.Entails.trans ?_ (Scf.wp_for frame (wpE (defs₀ (F := F)) 𝒱₀ (V d (cV i) (jV i)) none) Set.univ _ _ _ k0_t2_ok a _
    (fun k b => iprop(⌜b = unitsFold W X Y (8 * k) a⌝ ∗ holds d i p X ∗ holds d i t Y)) ?_)
  · iintro ⟨Hp, Ht⟩
    isplitl
    · isplitr; · ipureintro; rfl
      isplitl [Hp] <;> iassumption
    · iintro %b H; iexact H
  · intro k b
    simp only [wp_bind, wp_pure]
    refine Idealize.SL.BI.BIBase.Entails.trans ?_ (Scf.wp_for frame (wpE (defs₀ (F := F)) 𝒱₀ (V d (cV i) (jV i)) none) Set.univ _ _ _ k0_t3_ok b _
      (fun k' b' => iprop(⌜b' = unitsFold W X Y (8 * k.val + k') a⌝ ∗ holds d i p X ∗ holds d i t Y)) ?_)
    · iintro H
      isplitl
      · iexact H
      · iintro %b' H; imodintro; iexact H
    · intro k' b'
      iintro ⟨%hb, H⟩
      iapply (wp_wand frame _ Set.univ) $$ [H]
      · iapply (unit_run i d W p t _ _ X Y b') $$ H
      · iintro %b'' ⟨%hb', H⟩
        isplitr
        · ipureintro
          rw [hb', hb, unitStep_congr W _ (offU_inb (8 * k.val + k'.val)) (hoff k k')]
          rfl
        · iexact H

/-! ## The printed loops are that program -/

/-- The view of slot 0 and of slot 1 of a double buffer. -/
abbrev slot0 (b : Memref sig .scVector .vmem S2x16x1024 .f32) : Memref sig .scVector .vmem S16x1024 .f32 :=
  (b.slice (Rect.unit (s := S2x16x1024) ![0, 0, 0] S1x16x1024.size inb_S2x16x1024_S1x16x1024_0_0_0) (fun _ => rfl)).squeeze S16x1024 squeezes_S1x16x1024_S16x1024
abbrev slot1 (b : Memref sig .scVector .vmem S2x16x1024 .f32) : Memref sig .scVector .vmem S16x1024 .f32 :=
  (b.slice (Rect.unit (s := S2x16x1024) ![1, 0, 0] S1x16x1024.size inb_S2x16x1024_S1x16x1024_1_0_0) (fun _ => rfl)).squeeze S16x1024 squeezes_S1x16x1024_S16x1024

section Loops

variable (arg2 : Memref sig .scVector .hbm S32768x1024 .f32) (harg2 : arg2.IsWhole) (arg3 : Memref sig .scVector .hbm S32768x1024 .f32) (harg3 : arg3.IsWhole)
  (arg4 : Memref sig .scVector .hbm S9x16 .f32) (harg4 : arg4.IsWhole) (arg5 : Memref sig .scVector .hbm S512 .f32) (harg5 : arg5.IsWhole)
  (arg6 : Memref sig .scVector .vmem S2x16x1024 .f32) (harg6 : arg6.IsWhole) (arg7 : Memref sig .scVector .vmem S2x16x1024 .f32) (harg7 : arg7.IsWhole)
  (arg8 : Memref sig .scVector .vmem S9x16 .f32) (harg8 : arg8.IsWhole) (arg9 : Memref sig .scVector .vmem S16 .f32) (harg9 : arg9.IsWhole)
  (arg10 arg11 v99_r0 v99_r1 : DmaSems sig S_) (v6 v9 v12 v15 v18 v21 v24 v27 v30 : FVec F S16 .f32)

include harg2 harg3 harg4 harg5 harg6 harg7 harg8 harg9

theorem t3_body_eq (v3 c0 c1 : BitVec 32) (t1 : Fin k0_t1_loop.trips) (x0 x1 x2 x3 x4 x5 x6 x7 : FVec F S16 .f32) (k : Fin k0_t2_loop.trips) (w : BitVec 32) (k' : Fin k0_t3_loop.trips) (a : Acc F) :
    k0_t3_body i arg2 harg2 arg3 harg3 arg4 harg4 arg5 harg5 arg6 harg6 arg7 harg7 arg8 harg8 arg9 harg9 arg10 arg11 v99_r0 v99_r1 v3 v6 v9 v12 v15 v18 v21 v24 v27 v30 c0 c1 t1 x0 x1 x2 x3 x4 x5 x6 x7 k w k' a
      = unitProg i ⟨v6, v9, v12, v15, v18, v21, v24, v27, v30⟩ (slot0 arg6) (slot0 arg7) (fun r => k0_off3 k k' (BitVec.ofNat 32 (16 * r.val))) (k0_off3_inb k k') a := by
  obtain ⟨a0, a1, a2, a3, a4, a5, a6, a7⟩ := a
  simp only [k0_t3_body, k0_part1_eq_skeleton, k0_part2_eq_skeleton, k0_part3_eq_skeleton, k0_part4_eq_skeleton, k0_part1_skel, k0_part2_skel, k0_part3_skel, k0_part4_skel]
  rfl

theorem t2_eq (v3 c0 c1 : BitVec 32) (t1 : Fin k0_t1_loop.trips) (x0 x1 x2 x3 x4 x5 x6 x7 : FVec F S16 .f32) (a : Acc F) :
    Scf.Loop.for k0_t2_loop k0_t2_ok a (k0_t2_body i arg2 harg2 arg3 harg3 arg4 harg4 arg5 harg5 arg6 harg6 arg7 harg7 arg8 harg8 arg9 harg9 arg10 arg11 v99_r0 v99_r1 v3 v6 v9 v12 v15 v18 v21 v24 v27 v30 c0 c1 t1 x0 x1 x2 x3 x4 x5 x6 x7)
      = rowsProg i ⟨v6, v9, v12, v15, v18, v21, v24, v27, v30⟩ (slot0 arg6) (slot0 arg7) a := by
  have h : k0_t2_body i arg2 harg2 arg3 harg3 arg4 harg4 arg5 harg5 arg6 harg6 arg7 harg7 arg8 harg8 arg9 harg9 arg10 arg11 v99_r0 v99_r1 v3 v6 v9 v12 v15 v18 v21 v24 v27 v30 c0 c1 t1 x0 x1 x2 x3 x4 x5 x6 x7 = fun k b =>
      Scf.Loop.for k0_t3_loop k0_t3_ok b (k0_t3_body i arg2 harg2 arg3 harg3 arg4 harg4 arg5 harg5 arg6 harg6 arg7 harg7 arg8 harg8 arg9 harg9 arg10 arg11 v99_r0 v99_r1 v3 v6 v9 v12 v15 v18 v21 v24 v27 v30 c0 c1 t1 x0 x1 x2 x3 x4 x5 x6 x7 k (Scf.iv 0#32 1#32 k)) >>= fun b' => Pure.pure b' := rfl
  rw [h]
  unfold rowsProg
  refine congrArg (Scf.Loop.for k0_t2_loop k0_t2_ok a) (funext fun k => funext fun b => ?_)
  refine congrArg (fun f => Scf.Loop.for k0_t3_loop k0_t3_ok b f >>= fun b' => Pure.pure b') (funext fun k' => funext fun b' => ?_)
  exact t3_body_eq i arg2 harg2 arg3 harg3 arg4 harg4 arg5 harg5 arg6 harg6 arg7 harg7 arg8 harg8 arg9 harg9 arg10 arg11 v99_r0 v99_r1 v6 v9 v12 v15 v18 v21 v24 v27 v30 v3 c0 c1 t1 x0 x1 x2 x3 x4 x5 x6 x7 k _ k' b'

theorem t5_body_eq (v3 v99 : BitVec 32) (t1 : Fin k0_t1_loop.trips) (x0 x1 x2 x3 x4 x5 x6 x7 : FVec F S16 .f32) (k : Fin k0_t2_loop.trips) (w : BitVec 32) (k' : Fin k0_t3_loop.trips) (a : Acc F) :
    k0_t5_body i arg2 harg2 arg3 harg3 arg4 harg4 arg5 harg5 arg6 harg6 arg7 harg7 arg8 harg8 arg9 harg9 arg10 arg11 v99_r0 v99_r1 v3 v6 v9 v12 v15 v18 v21 v24 v27 v30 t1 v99 x0 x1 x2 x3 x4 x5 x6 x7 k w k' a
      = unitProg i ⟨v6, v9, v12, v15, v18, v21, v24, v27, v30⟩ (slot1 arg6) (slot1 arg7) (fun r => k0_off3 k k' (BitVec.ofNat 32 (16 * r.val))) (k0_off3_inb k k') a := by
  obtain ⟨a0, a1, a2, a3, a4, a5, a6, a7⟩ := a
  simp only [k0_t5_body, k0_part5_eq_skeleton, k0_part6_eq_skeleton, k0_part7_eq_skeleton, k0_part8_eq_skeleton, k0_part5_skel, k0_part6_skel, k0_part7_skel, k0_part8_skel]
  rfl

theorem t4_eq (v3 v99 : BitVec 32) (t1 : Fin k0_t1_loop.trips) (x0 x1 x2 x3 x4 x5 x6 x7 : FVec F S16 .f32) (a : Acc F) :
    Scf.Loop.for k0_t4_loop k0_t4_ok a (k0_t4_body i arg2 harg2 arg3 harg3 arg4 harg4 arg5 harg5 arg6 harg6 arg7 harg7 arg8 harg8 arg9 harg9 arg10 arg11 v99_r0 v99_r1 v3 v6 v9 v12 v15 v18 v21 v24 v27 v30 t1 v99 x0 x1 x2 x3 x4 x5 x6 x7)
      = rowsProg i ⟨v6, v9, v12, v15, v18, v21, v24, v27, v30⟩ (slot1 arg6) (slot1 arg7) a := by
  have h : k0_t4_body i arg2 harg2 arg3 harg3 arg4 harg4 arg5 harg5 arg6 harg6 arg7 harg7 arg8 harg8 arg9 harg9 arg10 arg11 v99_r0 v99_r1 v3 v6 v9 v12 v15 v18 v21 v24 v27 v30 t1 v99 x0 x1 x2 x3 x4 x5 x6 x7 = fun k b =>
      Scf.Loop.for k0_t5_loop k0_t5_ok b (k0_t5_body i arg2 harg2 arg3 harg3 arg4 harg4 arg5 harg5 arg6 harg6 arg7 harg7 arg8 harg8 arg9 harg9 arg10 arg11 v99_r0 v99_r1 v3 v6 v9 v12 v15 v18 v21 v24 v27 v30 t1 v99 x0 x1 x2 x3 x4 x5 x6 x7 k (Scf.iv 0#32 1#32 k)) >>= fun b' => Pure.pure b' := rfl
  rw [h]
  unfold rowsProg
  refine congrArg (Scf.Loop.for k0_t2_loop k0_t2_ok a) (funext fun k => funext fun b => ?_)
  refine congrArg (fun f => Scf.Loop.for k0_t3_loop k0_t3_ok b f >>= fun b' => Pure.pure b') (funext fun k' => funext fun b' => ?_)
  exact t5_body_eq i arg2 harg2 arg3 harg3 arg4 harg4 arg5 harg5 arg6 harg6 arg7 harg7 arg8 harg8 arg9 harg9 arg10 arg11 v99_r0 v99_r1 v6 v9 v12 v15 v18 v21 v24 v27 v30 v3 v99 t1 x0 x1 x2 x3 x4 x5 x6 x7 k _ k' b'

theorem t7_body_eq (v3 c0 c1 : BitVec 32) (v31 : FVec F S16 .f32) (k : Fin k0_t2_loop.trips) (w : BitVec 32) (k' : Fin k0_t3_loop.trips) (a : Acc F) :
    k0_t7_body i arg2 harg2 arg3 harg3 arg4 harg4 arg5 harg5 arg6 harg6 arg7 harg7 arg8 harg8 arg9 harg9 arg10 arg11 v99_r0 v99_r1 v3 v6 v9 v12 v15 v18 v21 v24 v27 v30 v31 c0 c1 k w k' a
      = unitProg i ⟨v6, v9, v12, v15, v18, v21, v24, v27, v30⟩ (slot0 arg6) (slot0 arg7) (fun r => k0_off3 k k' (BitVec.ofNat 32 (16 * r.val))) (k0_off3_inb k k') a := by
  obtain ⟨a0, a1, a2, a3, a4, a5, a6, a7⟩ := a
  simp only [k0_t7_body, k0_part11_eq_skeleton, k0_part12_eq_skeleton, k0_part13_eq_skeleton, k0_part14_eq_skeleton, k0_part11_skel, k0_part12_skel, k0_part13_skel, k0_part14_skel]
  rfl

theorem t6_eq (v3 c0 c1 : BitVec 32) (v31 : FVec F S16 .f32) (a : Acc F) :
    Scf.Loop.for k0_t6_loop k0_t6_ok a (k0_t6_body i arg2 harg2 arg3 harg3 arg4 harg4 arg5 harg5 arg6 harg6 arg7 harg7 arg8 harg8 arg9 harg9 arg10 arg11 v99_r0 v99_r1 v3 v6 v9 v12 v15 v18 v21 v24 v27 v30 v31 c0 c1)
      = rowsProg i ⟨v6, v9, v12, v15, v18, v21, v24, v27, v30⟩ (slot0 arg6) (slot0 arg7) a := by
  have h : k0_t6_body i arg2 harg2 arg3 harg3 arg4 harg4 arg5 harg5 arg6 harg6 arg7 harg7 arg8 harg8 arg9 harg9 arg10 arg11 v99_r0 v99_r1 v3 v6 v9 v12 v15 v18 v21 v24 v27 v30 v31 c0 c1 = fun k b =>
      Scf.Loop.for k0_t7_loop k0_t7_ok b (k0_t7_body i arg2 harg2 arg3 harg3 arg4 harg4 arg5 harg5 arg6 harg6 arg7 harg7 arg8 harg8 arg9 harg9 arg10 arg11 v99_r0 v99_r1 v3 v6 v9 v12 v15 v18 v21 v24 v27 v30 v31 c0 c1 k (Scf.iv 0#32 1#32 k)) >>= fun b' => Pure.pure b' := rfl
  rw [h]
  unfold rowsProg
  refine congrArg (Scf.Loop.for k0_t2_loop k0_t2_ok a) (funext fun k => funext fun b => ?_)
  refine congrArg (fun f => Scf.Loop.for k0_t3_loop k0_t3_ok b f >>= fun b' => Pure.pure b') (funext fun k' => funext fun b' => ?_)
  exact t7_body_eq i arg2 harg2 arg3 harg3 arg4 harg4 arg5 harg5 arg6 harg6 arg7 harg7 arg8 harg8 arg9 harg9 arg10 arg11 v99_r0 v99_r1 v6 v9 v12 v15 v18 v21 v24 v27 v30 v3 c0 c1 v31 k _ k' b'

theorem t9_body_eq  (k : Fin k0_t2_loop.trips) (w : BitVec 32) (k' : Fin k0_t3_loop.trips) (a : Acc F) :
    k0_t9_body i arg2 harg2 arg3 harg3 arg4 harg4 arg5 harg5 arg6 harg6 arg7 harg7 arg8 harg8 arg9 harg9 arg10 arg11 v99_r0 v99_r1 v6 v9 v12 v15 v18 v21 v24 v27 v30 k w k' a
      = unitProg i ⟨v6, v9, v12, v15, v18, v21, v24, v27, v30⟩ (slot1 arg6) (slot1 arg7) (fun r => k0_off3 k k' (BitVec.ofNat 32 (16 * r.val))) (k0_off3_inb k k') a := by
  obtain ⟨a0, a1, a2, a3, a4, a5, a6, a7⟩ := a
  simp only [k0_t9_body, k0_part15_eq_skeleton, k0_part16_eq_skeleton, k0_part17_eq_skeleton, k0_part18_eq_skeleton, k0_part15_skel, k0_part16_skel, k0_part17_skel, k0_part18_skel]
  rfl

theorem t8_eq  (a : Acc F) :
    Scf.Loop.for k0_t8_loop k0_t8_ok a (k0_t8_body i arg2 harg2 arg3 harg3 arg4 harg4 arg5 harg5 arg6 harg6 arg7 harg7 arg8 harg8 arg9 harg9 arg10 arg11 v99_r0 v99_r1 v6 v9 v12 v15 v18 v21 v24 v27 v30)
      = rowsProg i ⟨v6, v9, v12, v15, v18, v21, v24, v27, v30⟩ (slot1 arg6) (slot1 arg7) a := by
  have h : k0_t8_body i arg2 harg2 arg3 harg3 arg4 harg4 arg5 harg5 arg6 harg6 arg7 harg7 arg8 harg8 arg9 harg9 arg10 arg11 v99_r0 v99_r1 v6 v9 v12 v15 v18 v21 v24 v27 v30 = fun k b =>
      Scf.Loop.for k0_t9_loop k0_t9_ok b (k0_t9_body i arg2 harg2 arg3 harg3 arg4 harg4 arg5 harg5 arg6 harg6 arg7 harg7 arg8 harg8 arg9 harg9 arg10 arg11 v99_r0 v99_r1 v6 v9 v12 v15 v18 v21 v24 v27 v30 k (Scf.iv 0#32 1#32 k)) >>= fun b' => Pure.pure b' := rfl
  rw [h]
  unfold rowsProg
  refine congrArg (Scf.Loop.for k0_t2_loop k0_t2_ok a) (funext fun k => funext fun b => ?_)
  refine congrArg (fun f => Scf.Loop.for k0_t3_loop k0_t3_ok b f >>= fun b' => Pure.pure b') (funext fun k' => funext fun b' => ?_)
  exact t9_body_eq i arg2 harg2 arg3 harg3 arg4 harg4 arg5 harg5 arg6 harg6 arg7 harg7 arg8 harg8 arg9 harg9 arg10 arg11 v99_r0 v99_r1 v6 v9 v12 v15 v18 v21 v24 v27 v30  k _ k' b'

end Loops

end Cert.Proof.Wmse

end
-- ==== Proof.Flight.lean ====
/-
  The two copies of a chunk: a chunk of the predictions and the same chunk of the targets start on one semaphore and
  are both waited for before either is read. Here: the state between start and waits, the two starts, the two waits.
-/
module

public import proofs.«01_k».proof.Proof.Rows

@[expose] public section

noncomputable section

namespace Cert.Proof.Wmse

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The counters' part of the ghost state. -/
abbrev EC : UEmb Counters (MT nD τ sig (HIx 1) (Elt F) ℕ UU ℕ) := countersEmb

variable (d : Dev nD) (i : grid0.Coords)

/-- Sixteen rows of an array in the shared memory, from an offset. -/
abbrev chunkOf (b : Memref sig .scVector .hbm S32768x1024 .f32) (o : Fin 2 → ℕ) (h : ∀ a, o a + S16x1024.size a ≤ S32768x1024.size a) :
    Memref sig .scVector .hbm S16x1024 .f32 :=
  b.slice (Rect.unit (s := S32768x1024) o S16x1024.size h) (fun _ => rfl)

/-- What a wait leaves recorded: the thread's debts as they were, the waits of `W` and others of the body's own. -/
def owing (O : CellTallies nD τ sig (HIx 1)) (W : Waits sig (HIx 1)) : sProp 𝕄 :=
  iprop(∃ W', ⌜∀ p ∈ W', p ∈ W ∨ p.2 = none⌝ ∗ owes (V d (cV i) (jV i)) O W')

section Pair

variable (sem : DmaSem sig) (p t : Memref sig .scVector .vmem S16x1024 .f32) (xb yb : Memref sig .scVector .hbm S32768x1024 .f32)
  (o : Fin 2 → ℕ) (h : ∀ a, o a + S16x1024.size a ≤ S32768x1024.size a) (q : PosShare TreeShare)
  (f : Buf (Elt F) (xb.view.loc (V d (cV i) (jV i)))) (g : Buf (Elt F) (yb.view.loc (V d (cV i) (jV i))))

/-- What the two copies deliver: the slot filled, and the share of the rows read given back. -/
def deliv (u : Fin 2) : sProp 𝕄 :=
  if u = 0 then iprop(holds d i p ((chunkOf xb o h).view.read (Elt F) f) ∗ ((chunkOf xb o h).view.loc (V d (cV i) (jV i)) ↦[(chunkOf xb o h).view.set]{q} f))
  else iprop(holds d i t ((chunkOf yb o h).view.read (Elt F) g) ∗ ((chunkOf yb o h).view.loc (V d (cV i) (jV i)) ↦[(chunkOf yb o h).view.set]{q} g))

instance holds_storable (p : Memref sig .scVector .vmem S16x1024 .f32) (X : S16x1024.Idx → Elt F .f32) :
    Storable (upEmb : UEmb _ 𝕄) (holds d i p X) := by unfold holds; infer_instance

instance deliv_storable (u : Fin 2) : Storable (upEmb : UEmb _ 𝕄) (deliv d i p t xb yb o h q f g u) := by
  unfold deliv; split <;> infer_instance

theorem deliv_split : bigSep Finset.univ (deliv d i p t xb yb o h q f g)
    ⊢ iprop((holds d i p ((chunkOf xb o h).view.read (Elt F) f) ∗ ((chunkOf xb o h).view.loc (V d (cV i) (jV i)) ↦[(chunkOf xb o h).view.set]{q} f))
        ∗ (holds d i t ((chunkOf yb o h).view.read (Elt F) g) ∗ ((chunkOf yb o h).view.loc (V d (cV i) (jV i)) ↦[(chunkOf yb o h).view.set]{q} g))) := by
  rw [Idealize.SL.BI.bigSep_univ_eq_bigSepL [0, 1] (by decide) (by decide) _]
  exact .rfl

/-- Both copies of a chunk, `j` of them started and `u` units of credit consumed. -/
def batch (N j u : ℕ) : sProp 𝕄 := Transfers.Batch EC (V d (cV i) (jV i)) (.dma sem) none N (deliv d i p t xb yb o h q f g) j u

/-- An array's elements outside the rows being copied. -/
def restOf (b : Memref sig .scVector .hbm S32768x1024 .f32) (k : Buf (Elt F) (b.view.loc (V d (cV i) (jV i)))) : sProp 𝕄 :=
  b.view.loc (V d (cV i) (jV i)) ↦[Finset.univ \ (chunkOf b o h).view.set]{q} k

/-- A share of an array in the shared memory. -/
def share (b : Memref sig .scVector .hbm S32768x1024 .f32) (k : Buf (Elt F) (b.view.loc (V d (cV i) (jV i)))) : sProp 𝕄 :=
  b.view.loc (V d (cV i) (jV i)) ↦[Finset.univ]{q} k

theorem share_split (b : Memref sig .scVector .hbm S32768x1024 .f32) (k : Buf (Elt F) (b.view.loc (V d (cV i) (jV i)))) :
    share d i q b k ⊣⊢ iprop(((chunkOf b o h).view.loc (V d (cV i) (jV i)) ↦[(chunkOf b o h).view.set]{q} k) ∗ restOf d i o h q b k) :=
  pointsTo_split_subset (Finset.subset_univ _)

/-- One copy started. -/
def half (N : ℕ) : sProp 𝕄 := iprop(batch d i sem p t xb yb o h q f g N 1 0 ∗ restOf d i o h q xb f)
/-- Both copies started. -/
def flight (N : ℕ) : sProp 𝕄 :=
  iprop(batch d i sem p t xb yb o h q f g N 2 0 ∗ restOf d i o h q xb f ∗ restOf d i o h q yb g)
/-- Both started, one wait done. -/
def flight' (N : ℕ) : sProp 𝕄 :=
  iprop(batch d i sem p t xb yb o h q f g N 2 N ∗ restOf d i o h q xb f ∗ restOf d i o h q yb g)

theorem deliv_pred (fp : Buf (Elt F) (p.view.loc (V d (cV i) (jV i)))) :
    iprop((p.view.loc (V d (cV i) (jV i)) ↦[p.view.set]{fullShare} (p.view.write (Elt F) fp
          ((ReadAs.same : ReadAs (Elt F) S16x1024 .f32 S16x1024 .f32).apply ((chunkOf xb o h).view.read (Elt F) f)) Finset.univ))
        ∗ ((chunkOf xb o h).view.loc (V d (cV i) (jV i)) ↦[(chunkOf xb o h).view.set]{q} f))
      ⊢ deliv d i p t xb yb o h q f g ⟨0, by decide⟩ := by
  unfold deliv holds
  rw [if_pos (show (⟨0, by decide⟩ : Fin 2) = 0 from rfl)]
  iintro ⟨Hp, Hx⟩
  isplitr [Hx]
  · iexists _
    isplitr
    swap; · iexact Hp
    · ipureintro; rw [View.read_write_univ]
  · iexact Hx

theorem deliv_tgt (ft : Buf (Elt F) (t.view.loc (V d (cV i) (jV i)))) :
    iprop((t.view.loc (V d (cV i) (jV i)) ↦[t.view.set]{fullShare} (t.view.write (Elt F) ft
          ((ReadAs.same : ReadAs (Elt F) S16x1024 .f32 S16x1024 .f32).apply ((chunkOf yb o h).view.read (Elt F) g)) Finset.univ))
        ∗ ((chunkOf yb o h).view.loc (V d (cV i) (jV i)) ↦[(chunkOf yb o h).view.set]{q} g))
      ⊢ deliv d i p t xb yb o h q f g ⟨1, by decide⟩ := by
  unfold deliv holds
  rw [if_neg (show ¬ (⟨1, by decide⟩ : Fin 2) = 0 by decide)]
  iintro ⟨Ht, Hy⟩
  isplitr [Hy]
  · iexists _
    isplitr
    swap; · iexact Ht
    · ipureintro; rw [View.read_write_univ]
  · iexact Hy

theorem start_pred (N : ℕ) (hN : p.view.amount (.dma sem) = N) {hs : (chunkOf xb o h).view.WordExact} {hd : p.view.WordExact}
    {ht : DmaTarget.Typed (nD := nD) .hbm (.dma sem) (DmaTarget.here p : DmaTarget nD τ sig (V d (cV i) (jV i)).2 .vmem S16x1024 .f32)} (X : S16x1024.Idx → Elt F .f32) (Φ : PUnit → sProp 𝕄) :
    iprop(holds d i p X ∗ share d i q xb f ∗ semVal ((V d (cV i) (jV i)), .dma sem) 0)
      ⊢ iprop((half d i sem p t xb yb o h q f g N -∗ Φ ⟨⟩)
          -∗ wpT d i (Prog.lift (.enqueueDma (chunkOf xb o h) (.here p) (.dma sem) hs hd ht)) Φ) := by
  iintro ⟨Hp, Hx, Hsem⟩ HΦ
  unfold wpT
  imod (Transfers.batch_alloc' (Lvl := ℕ) EC (V d (cV i) (jV i)) none N (deliv d i p t xb yb o h q f g) (sm := .dma sem) (E := Set.univ)) $$ Hsem with HB
  ihave Hx' := (share_split d i o h q xb f).1 $$ Hx
  icases Hx' with ⟨Hx, Hrest⟩
  unfold holds
  icases Hp with ⟨%fp, %hfp, Hp⟩
  iapply (Transfers.wp_dmaBatch EC 𝒱₀ (V d (cV i) (jV i)) none (src := chunkOf xb o h) (dst := p) none N hN subset_rfl
    (D := deliv d i p t xb yb o h q f g) (j := 0) (u := 0) (q := q) (fs := f) (fd := fp) (Sd := p.view.set) (by decide) (Nat.zero_le _)
    (deliv_pred d i p t xb yb o h q f g fp)) $$ [Hx Hp HB]
  · isplitl [Hx]; · iexact Hx
    isplitl [Hp]; · iexact Hp
    iexact HB
  iintro HB
  rw [wp_ret]; imodintro
  iapply HΦ
  unfold half batch
  isplitl [HB] <;> iassumption

theorem start_tgt (N : ℕ) (hN : t.view.amount (.dma sem) = N) {hs : (chunkOf yb o h).view.WordExact} {hd : t.view.WordExact}
    {ht : DmaTarget.Typed (nD := nD) .hbm (.dma sem) (DmaTarget.here t : DmaTarget nD τ sig (V d (cV i) (jV i)).2 .vmem S16x1024 .f32)} (Y : S16x1024.Idx → Elt F .f32) (Φ : PUnit → sProp 𝕄) :
    iprop(half d i sem p t xb yb o h q f g N ∗ holds d i t Y ∗ share d i q yb g)
      ⊢ iprop((flight d i sem p t xb yb o h q f g N -∗ Φ ⟨⟩)
          -∗ wpT d i (Prog.lift (.enqueueDma (chunkOf yb o h) (.here t) (.dma sem) hs hd ht)) Φ) := by
  unfold half batch
  iintro ⟨⟨HB, Hxr⟩, Ht, Hy⟩ HΦ
  unfold wpT
  ihave Hy' := (share_split d i o h q yb g).1 $$ Hy
  icases Hy' with ⟨Hy, Hyr⟩
  unfold holds
  icases Ht with ⟨%ft, %hft, Ht⟩
  iapply (Transfers.wp_dmaBatch EC 𝒱₀ (V d (cV i) (jV i)) none (src := chunkOf yb o h) (dst := t) none N hN subset_rfl
    (D := deliv d i p t xb yb o h q f g) (j := 1) (u := 0) (q := q) (fs := g) (fd := ft) (Sd := t.view.set) (by decide) (Nat.zero_le _)
    (deliv_tgt d i p t xb yb o h q f g ft)) $$ [Hy Ht HB]
  · isplitl [Hy]; · iexact Hy
    isplitl [Ht]; · iexact Ht
    iexact HB
  iintro HB
  rw [wp_ret]; imodintro
  iapply HΦ
  unfold flight batch
  isplitl [HB]; · iexact HB
  isplitl [Hxr] <;> iassumption

variable (O : CellTallies nD τ sig (HIx 1)) (W : Waits sig (HIx 1))

theorem owing_insert (W' : Waits sig (HIx 1)) (hW : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact hW p hp

theorem wait_first (N : ℕ) (hN0 : 0 < N) {srcw : Memref sig .scVector .hbm S16x1024 .f32} {dstw : Memref sig .scVector .vmem S16x1024 .f32}
    {hs : srcw.view.WordExact} {hd : dstw.view.WordExact} (hN : dstw.view.dmaCredit = N) (Φ : PUnit → sProp 𝕄) :
    iprop(Transfers.MayWaits (V d (cV i) (jV i)) none O ∗ flight d i sem p t xb yb o h q f g N ∗ owing d i O W)
      ⊢ iprop((iprop(flight' d i sem p t xb yb o h q f g N ∗ owing d i O W) -∗ Φ ⟨⟩)
          -∗ wpT d i (Prog.lift (.waitDma2 sem srcw dstw hs hd)) Φ) := by
  unfold flight batch owing
  iintro ⟨#Hmw, ⟨HB, Hxr, Hyr⟩, ⟨%W', %hW, HO⟩⟩ HΦ
  unfold wpT
  iapply (Transfers.wp_waitBatchO EC 𝒱₀ (V d (cV i) (jV i)) none (srcw := srcw) (dstw := dstw) none hN
    (D := deliv d i p t xb yb o h q f g) (u := 0) (by omega)) $$ [HB HO]
  · isplitl [HB]; · iexact HB
    isplitl [HO]; · iexact HO
    iapply (Transfers.MayWaits.elim (SemLoc.dma sem)) $$ Hmw
  iintro ⟨HB, HO⟩
  rw [wp_ret]; imodintro
  iapply HΦ
  unfold flight' batch
  isplitl [HB Hxr Hyr]
  · rw [Nat.zero_add]
    isplitl [HB]; · iexact HB
    isplitl [Hxr] <;> iassumption
  · iexists _
    isplitr
    swap; · iexact HO
    · ipureintro; exact owing_insert W W' hW _

theorem wait_last (N : ℕ) (hN0 : 0 < N) {srcw : Memref sig .scVector .hbm S16x1024 .f32} {dstw : Memref sig .scVector .vmem S16x1024 .f32}
    {hs : srcw.view.WordExact} {hd : dstw.view.WordExact} (hN : dstw.view.dmaCredit = N) (Φ : PUnit → sProp 𝕄) :
    iprop(Transfers.MayWaits (V d (cV i) (jV i)) none O ∗ flight' d i sem p t xb yb o h q f g N ∗ owing d i O W)
      ⊢ iprop((iprop(holds d i p ((chunkOf xb o h).view.read (Elt F) f) ∗ holds d i t ((chunkOf yb o h).view.read (Elt F) g)
              ∗ share d i q xb f ∗ share d i q yb g ∗ semVal ((V d (cV i) (jV i)), .dma sem) 0 ∗ owing d i O W) -∗ Φ ⟨⟩)
          -∗ wpT d i (Prog.lift (.waitDma2 sem srcw dstw hs hd)) Φ) := by
  unfold flight' batch owing
  iintro ⟨#Hmw, ⟨HB, Hxr, Hyr⟩, ⟨%W', %hW, HO⟩⟩ HΦ
  unfold wpT
  iapply (Transfers.wp_waitBatchLastO EC 𝒱₀ (V d (cV i) (jV i)) none (srcw := srcw) (dstw := dstw) none hN hN0
    (D := deliv d i p t xb yb o h q f g) (u := N) (by omega)) $$ [HB HO]
  · isplitl [HB]; · iexact HB
    isplitl [HO]; · iexact HO
    iapply (Transfers.MayWaits.elim (SemLoc.dma sem)) $$ Hmw
  iintro ⟨HD, Hsem, HO⟩
  rw [wp_ret]; imodintro
  ihave HD' := (deliv_split d i p t xb yb o h q f g) $$ HD
  icases HD' with ⟨⟨Hp, Hx⟩, Ht, Hy⟩
  iapply HΦ
  isplitl [Hp]; · iexact Hp
  isplitl [Ht]; · iexact Ht
  isplitl [Hx Hxr]
  · iapply (share_split d i o h q xb f).2; isplitl [Hx] <;> iassumption
  isplitl [Hy Hyr]
  · iapply (share_split d i o h q yb g).2; isplitl [Hy] <;> iassumption
  isplitl [Hsem]; · iexact Hsem
  iexists _
  isplitr
  swap; · iexact HO
  · ipureintro; exact owing_insert W W' hW _

end Pair

/-- Only the offset of a chunk's rows matters. -/
theorem flight_congr (sem : DmaSem sig) (p t : Memref sig .scVector .vmem S16x1024 .f32) (xb yb : Memref sig .scVector .hbm S32768x1024 .f32)
    {o o' : Fin 2 → ℕ} (h : ∀ a, o a + S16x1024.size a ≤ S32768x1024.size a) (h' : ∀ a, o' a + S16x1024.size a ≤ S32768x1024.size a) (e : o = o')
    (q : PosShare TreeShare) (f : Buf (Elt F) (xb.view.loc (V d (cV i) (jV i)))) (g : Buf (Elt F) (yb.view.loc (V d (cV i) (jV i)))) (N : ℕ) :
    flight d i sem p t xb yb o h q f g N = flight d i sem p t xb yb o' h' q f g N := by subst e; rfl

end Cert.Proof.Wmse

end
-- ==== Proof.Ring.lean ====
/-
  The double buffer on a tile: while one slot's chunk is summed, the next chunk's copies run into the other slot.
-/
module

public import proofs.«01_k».proof.Proof.Flight

@[expose] public section

noncomputable section

namespace Cert.Proof.Wmse

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The rows of chunk `n` of a tile's share. -/
def offC (i : grid0.Coords) (n : ℕ) : Fin 2 → ℕ := ![896 * (i 1).val + 448 * (i 0).val + 16 * (n % 28) + 18432, 0]

theorem offC_inb (i : grid0.Coords) (n : ℕ) : ∀ a, offC i n a + S16x1024.size a ≤ S32768x1024.size a := by
  have h0 : (i 0).val < 2 := (i 0).isLt
  have h1 : (i 1).val < 16 := (i 1).isLt
  have hn : n % 28 < 28 := Nat.mod_lt _ (by decide)
  intro a
  fin_cases a
  · show 896 * (i 1).val + 448 * (i 0).val + 16 * (n % 28) + 18432 + 16 ≤ 32768
    omega
  · show 0 + 1024 ≤ 1024
    omega

theorem off1_offC0 (i : grid0.Coords) : k0_off1 i 0#32 = offC i 0 := k0_off1_eq i 0
theorem off1_offC1 (i : grid0.Coords) : k0_off1 i 16#32 = offC i 1 := k0_off1_eq i 1

theorem off4_offC0 (i : grid0.Coords) (k : Fin k0_t1_loop.trips) : k0_off4 i k 2#32 = offC i (2 * k.val + 2) := by
  have hk : k.val < 13 := k.isLt
  refine (k0_off4_eq i k 0).trans ?_
  unfold offC
  rw [show (2 * k.val + 2) % 28 = 2 * k.val + 2 by omega]
  congr 1
  show 896 * (i 1).val + 448 * (i 0).val + 32 * k.val + 16 * 0 + 18464 = _
  omega

theorem off4_offC1 (i : grid0.Coords) (k : Fin k0_t1_loop.trips) : k0_off4 i k 3#32 = offC i (2 * k.val + 3) := by
  have hk : k.val < 13 := k.isLt
  refine (k0_off4_eq i k 1).trans ?_
  unfold offC
  rw [show (2 * k.val + 3) % 28 = 2 * k.val + 3 by omega]
  congr 1
  show 896 * (i 1).val + 448 * (i 0).val + 32 * k.val + 16 * 1 + 18464 = _
  omega

/-- The accumulators after `n` chunks. -/
def chunksFold (W : Consts F) (px py : ℕ → S16x1024.Idx → Elt F .f32) : ℕ → Acc F → Acc F
  | 0, a => a
  | n + 1, a => unitsFold W (px n) (py n) 128 (chunksFold W px py n a)

variable (d : Dev nD) (i : grid0.Coords)

/-- A chunk's contents. -/
def chunkVal (b : Memref sig .scVector .hbm S32768x1024 .f32) (f : Buf (Elt F) (b.view.loc (V d (cV i) (jV i)))) (n : ℕ) : S16x1024.Idx → Elt F .f32 :=
  (chunkOf b (offC i n) (offC_inb i n)).view.read (Elt F) f

theorem rows_runK (W : Consts F) (p t : Memref sig .scVector .vmem S16x1024 .f32) (X Y : S16x1024.Idx → Elt F .f32) (a : Acc F) (Φ : Acc F → sProp 𝕄) :
    iprop(holds d i p X ∗ holds d i t Y)
      ⊢ iprop((iprop(holds d i p X ∗ holds d i t Y) -∗ Φ (unitsFold W X Y 128 a)) -∗ wpT d i (rowsProg i W p t a) Φ) := by
  iintro H HΦ
  unfold wpT
  iapply (wp_wand frame _ Set.univ) $$ [H]
  · iapply (rows_run i d W p t X Y a) $$ H
  · iintro %b ⟨%hb, H⟩
    subst hb
    iapply HΦ $$ H

section Body

variable (arg2 : Memref sig .scVector .hbm S32768x1024 .f32) (harg2 : arg2.IsWhole) (arg3 : Memref sig .scVector .hbm S32768x1024 .f32) (harg3 : arg3.IsWhole)
  (arg4 : Memref sig .scVector .hbm S9x16 .f32) (harg4 : arg4.IsWhole) (arg5 : Memref sig .scVector .hbm S512 .f32) (harg5 : arg5.IsWhole)
  (arg6 : Memref sig .scVector .vmem S2x16x1024 .f32) (harg6 : arg6.IsWhole) (arg7 : Memref sig .scVector .vmem S2x16x1024 .f32) (harg7 : arg7.IsWhole)
  (arg8 : Memref sig .scVector .vmem S9x16 .f32) (harg8 : arg8.IsWhole) (arg9 : Memref sig .scVector .vmem S16 .f32) (harg9 : arg9.IsWhole)
  (arg10 arg11 v99_r0 v99_r1 : DmaSems sig S_) (v6 v9 v12 v15 v18 v21 v24 v27 v30 : FVec F S16 .f32)
  (q : PosShare TreeShare) (f : Buf (Elt F) (arg2.view.loc (V d (cV i) (jV i)))) (g : Buf (Elt F) (arg3.view.loc (V d (cV i) (jV i)))) (N : ℕ)
  (O : CellTallies nD τ sig (HIx 1)) (W : Waits sig (HIx 1))

/-- The copies of chunk `n` on their way into slot 0, and into slot 1. -/
def fl0 (n : ℕ) : sProp 𝕄 := flight d i arg10.sem (slot0 arg6) (slot0 arg7) arg2 arg3 (offC i n) (offC_inb i n) q.left f g N
def fl1 (n : ℕ) : sProp 𝕄 := flight d i arg11.sem (slot1 arg6) (slot1 arg7) arg2 arg3 (offC i n) (offC_inb i n) q.right f g N

set_option maxHeartbeats 1000000 in
theorem t1_step (hN0 : 0 < N) (h0p : (slot0 arg6).view.dmaCredit = N) (h0t : (slot0 arg7).view.dmaCredit = N)
    (h1p : (slot1 arg6).view.dmaCredit = N) (h1t : (slot1 arg7).view.dmaCredit = N)
    (v3 c0 c1 : BitVec 32) (v31 : FVec F S16 .f32) (k : Fin k0_t1_loop.trips) (a : Acc F) :
    iprop(Transfers.MayWaits (V d (cV i) (jV i)) none O
        ∗ fl0 d i arg2 arg3 arg6 arg7 arg10 q f g N (2 * k.val) ∗ fl1 d i arg2 arg3 arg6 arg7 arg11 q f g N (2 * k.val + 1) ∗ owing d i O W)
      ⊢ wpT d i (k0_t1_body i arg2 harg2 arg3 harg3 arg4 harg4 arg5 harg5 arg6 harg6 arg7 harg7 arg8 harg8 arg9 harg9 arg10 arg11 v99_r0 v99_r1 v3 v6 v9 v12 v15 v18 v21 v24 v27 v30 v31 c0 c1 k a) fun b =>
        iprop(⌜b = unitsFold ⟨v6, v9, v12, v15, v18, v21, v24, v27, v30⟩ (chunkVal d i arg2 f (2 * k.val + 1)) (chunkVal d i arg3 g (2 * k.val + 1)) 128
              (unitsFold ⟨v6, v9, v12, v15, v18, v21, v24, v27, v30⟩ (chunkVal d i arg2 f (2 * k.val)) (chunkVal d i arg3 g (2 * k.val)) 128 a)⌝
          ∗ fl0 d i arg2 arg3 arg6 arg7 arg10 q f g N (2 * k.val + 2) ∗ fl1 d i arg2 arg3 arg6 arg7 arg11 q f g N (2 * k.val + 3) ∗ owing d i O W) := by
  obtain ⟨a0, a1, a2, a3, a4, a5, a6, a7⟩ := a
  simp only [k0_t1_body, k0_part9_eq_skeleton, k0_part9_skel, k0_part10_eq_skeleton, k0_part10_skel, wp_bind, wp_pure]
  iintro ⟨#Hmw, H0, H1, HO⟩
  unfold fl0 fl1
  iapply (wait_first d i arg10.sem (slot0 arg6) (slot0 arg7) arg2 arg3 (offC i (2 * k.val)) (offC_inb i _) q.left f g O W N hN0 h0p _) $$ [H0 HO]
  · isplitr; · iexact Hmw
    isplitl [H0] <;> iassumption
  iintro ⟨H0, HO⟩
  iapply (wait_last d i arg10.sem (slot0 arg6) (slot0 arg7) arg2 arg3 (offC i (2 * k.val)) (offC_inb i _) q.left f g O W N hN0 h0t _) $$ [H0 HO]
  · isplitr; · iexact Hmw
    isplitl [H0] <;> iassumption
  iintro ⟨Hp0, Ht0, Hx0, Hy0, Hs0, HO⟩
  rw [t2_eq i arg2 harg2 arg3 harg3 arg4 harg4 arg5 harg5 arg6 harg6 arg7 harg7 arg8 harg8 arg9 harg9 arg10 arg11 v99_r0 v99_r1 v6 v9 v12 v15 v18 v21 v24 v27 v30]
  iapply (rows_runK d i _ (slot0 arg6) (slot0 arg7) (chunkVal d i arg2 f (2 * k.val)) (chunkVal d i arg3 g (2 * k.val)) _ _) $$ [Hp0 Ht0]
  · isplitl [Hp0]; · iexact Hp0
    iexact Ht0
  iintro ⟨Hp0, Ht0⟩
  generalize hb : unitsFold (F := F) _ _ _ 128 _ = b
  obtain ⟨b0, b1, b2, b3, b4, b5, b6, b7⟩ := b
  simp only []
  iapply (start_pred d i arg10.sem (slot0 arg6) (slot0 arg7) arg2 arg3 (k0_off4 i k 2#32) (k0_off4_inb i k 0) q.left f g N h0p _ _) $$ [Hp0 Hx0 Hs0]
  · isplitl [Hp0]; · iexact Hp0
    isplitl [Hx0] <;> iassumption
  iintro H0
  imodintro
  iapply (start_tgt d i arg10.sem (slot0 arg6) (slot0 arg7) arg2 arg3 (k0_off4 i k 2#32) (k0_off4_inb i k 0) q.left f g N h0t _ _) $$ [Ht0 Hy0 H0]
  · isplitl [H0]; · iexact H0
    isplitl [Ht0] <;> iassumption
  iintro H0
  iapply (wait_first d i arg11.sem (slot1 arg6) (slot1 arg7) arg2 arg3 (offC i (2 * k.val + 1)) (offC_inb i _) q.right f g O W N hN0 h1p _) $$ [H1 HO]
  · isplitr; · iexact Hmw
    isplitl [H1] <;> iassumption
  iintro ⟨H1, HO⟩
  iapply (wait_last d i arg11.sem (slot1 arg6) (slot1 arg7) arg2 arg3 (offC i (2 * k.val + 1)) (offC_inb i _) q.right f g O W N hN0 h1t _) $$ [H1 HO]
  · isplitr; · iexact Hmw
    isplitl [H1] <;> iassumption
  iintro ⟨Hp1, Ht1, Hx1, Hy1, Hs1, HO⟩
  rw [t4_eq i arg2 harg2 arg3 harg3 arg4 harg4 arg5 harg5 arg6 harg6 arg7 harg7 arg8 harg8 arg9 harg9 arg10 arg11 v99_r0 v99_r1 v6 v9 v12 v15 v18 v21 v24 v27 v30]
  iapply (rows_runK d i _ (slot1 arg6) (slot1 arg7) (chunkVal d i arg2 f (2 * k.val + 1)) (chunkVal d i arg3 g (2 * k.val + 1)) _ _) $$ [Hp1 Ht1]
  · isplitl [Hp1]; · iexact Hp1
    iexact Ht1
  iintro ⟨Hp1, Ht1⟩
  generalize hc : unitsFold (F := F) _ _ _ 128 _ = c
  obtain ⟨c0', c1', c2, c3, c4, c5, c6, c7⟩ := c
  simp only []
  imodintro
  iapply (start_pred d i arg11.sem (slot1 arg6) (slot1 arg7) arg2 arg3 (k0_off4 i k 3#32) (k0_off4_inb i k 1) q.right f g N h1p _ _) $$ [Hp1 Hx1 Hs1]
  · isplitl [Hp1]; · iexact Hp1
    isplitl [Hx1] <;> iassumption
  iintro H1
  iapply (start_tgt d i arg11.sem (slot1 arg6) (slot1 arg7) arg2 arg3 (k0_off4 i k 3#32) (k0_off4_inb i k 1) q.right f g N h1t _ _) $$ [Ht1 Hy1 H1]
  · isplitl [H1]; · iexact H1
    isplitl [Ht1] <;> iassumption
  iintro H1
  imodintro
  ihave H0 := Entails.of_eq (flight_congr d i arg10.sem (slot0 arg6) (slot0 arg7) arg2 arg3 (o := k0_off4 i k 2#32) (k0_off4_inb i k 0)
    (offC_inb i (2 * k.val + 2)) (off4_offC0 i k) q.left f g N) $$ H0
  ihave H1 := Entails.of_eq (flight_congr d i arg11.sem (slot1 arg6) (slot1 arg7) arg2 arg3 (o := k0_off4 i k 3#32) (k0_off4_inb i k 1)
    (offC_inb i (2 * k.val + 3)) (off4_offC1 i k) q.right f g N) $$ H1
  isplitr
  · ipureintro; trivial
  isplitl [H0]; · iexact H0
  isplitl [H1] <;> iassumption

/-- The main loop: 26 chunks summed, the last two on their way. -/
theorem t1_run (hN0 : 0 < N) (h0p : (slot0 arg6).view.dmaCredit = N) (h0t : (slot0 arg7).view.dmaCredit = N)
    (h1p : (slot1 arg6).view.dmaCredit = N) (h1t : (slot1 arg7).view.dmaCredit = N)
    (v3 c0 c1 : BitVec 32) (v31 : FVec F S16 .f32) (a : Acc F) (Φ : Acc F → sProp 𝕄) :
    iprop(Transfers.MayWaits (V d (cV i) (jV i)) none O
        ∗ fl0 d i arg2 arg3 arg6 arg7 arg10 q f g N 0 ∗ fl1 d i arg2 arg3 arg6 arg7 arg11 q f g N 1 ∗ owing d i O W)
      ⊢ iprop((iprop(fl0 d i arg2 arg3 arg6 arg7 arg10 q f g N 26 ∗ fl1 d i arg2 arg3 arg6 arg7 arg11 q f g N 27 ∗ owing d i O W)
            -∗ Φ (chunksFold ⟨v6, v9, v12, v15, v18, v21, v24, v27, v30⟩ (chunkVal d i arg2 f) (chunkVal d i arg3 g) 26 a))
          -∗ wpT d i (Scf.Loop.for k0_t1_loop k0_t1_ok a (k0_t1_body i arg2 harg2 arg3 harg3 arg4 harg4 arg5 harg5 arg6 harg6 arg7 harg7 arg8 harg8 arg9 harg9 arg10 arg11 v99_r0 v99_r1 v3 v6 v9 v12 v15 v18 v21 v24 v27 v30 v31 c0 c1)) Φ) := by
  iintro ⟨#Hmw, H0, H1, HO⟩ HΦ
  iapply (Scf.wp_for frame (wpE (defs₀ (F := F)) 𝒱₀ (V d (cV i) (jV i)) none) Set.univ _ _ _ k0_t1_ok a
    (k0_t1_body i arg2 harg2 arg3 harg3 arg4 harg4 arg5 harg5 arg6 harg6 arg7 harg7 arg8 harg8 arg9 harg9 arg10 arg11 v99_r0 v99_r1 v3 v6 v9 v12 v15 v18 v21 v24 v27 v30 v31 c0 c1)
    (fun k b => iprop(⌜b = chunksFold ⟨v6, v9, v12, v15, v18, v21, v24, v27, v30⟩ (chunkVal d i arg2 f) (chunkVal d i arg3 g) (2 * k) a⌝
      ∗ Transfers.MayWaits (V d (cV i) (jV i)) none O
      ∗ fl0 d i arg2 arg3 arg6 arg7 arg10 q f g N (2 * k) ∗ fl1 d i arg2 arg3 arg6 arg7 arg11 q f g N (2 * k + 1) ∗ owing d i O W)) ?_)
  · intro k b
    iintro ⟨%hb, #Hmw, H0, H1, HO⟩
    iapply (wp_wand frame _ Set.univ) $$ [H0 H1 HO]
    · iapply (t1_step d i arg2 harg2 arg3 harg3 arg4 harg4 arg5 harg5 arg6 harg6 arg7 harg7 arg8 harg8 arg9 harg9 arg10 arg11 v99_r0 v99_r1
        v6 v9 v12 v15 v18 v21 v24 v27 v30 q f g N O W hN0 h0p h0t h1p h1t v3 c0 c1 v31 k b)
      isplitr; · iexact Hmw
      isplitl [H0]; · iexact H0
      isplitl [H1] <;> iassumption
    · iintro %b' ⟨%hb', H0, H1, HO⟩
      isplitr
      · ipureintro; rw [hb', hb]; rfl
      isplitr; · iexact Hmw
      isplitl [H0]; · iexact H0
      isplitl [H1] <;> iassumption
  · isplitl [H0 H1 HO]
    · isplitr; · ipureintro; rfl
      isplitr; · iexact Hmw
      isplitl [H0]; · iexact H0
      isplitl [H1] <;> iassumption
    · iintro %b ⟨%hb, -, H0, H1, HO⟩
      have e : Scf.trips k0_t1_loop.lb k0_t1_loop.ub k0_t1_loop.st = 13 := rfl
      rw [hb, show ∀ W' X Y, chunksFold (F := F) W' X Y (2 * Scf.trips k0_t1_loop.lb k0_t1_loop.ub k0_t1_loop.st) a = chunksFold W' X Y 26 a from
        fun W' X Y => by rw [e]]
      iapply HΦ
      isplitl [H0]; · iexact H0
      isplitl [H1]; · iexact H1
      iexact HO

set_option maxHeartbeats 1000000 in
/-- The main loop, the last chunk of slot 0, and the first of the two waits for slot 1. -/
theorem part21_run (hN0 : 0 < N) (h0p : (slot0 arg6).view.dmaCredit = N) (h0t : (slot0 arg7).view.dmaCredit = N)
    (h1p : (slot1 arg6).view.dmaCredit = N) (h1t : (slot1 arg7).view.dmaCredit = N)
    (v3 c0 c1 : BitVec 32) (v31 : FVec F S16 .f32) (Φ : _ → sProp 𝕄) :
    iprop(Transfers.MayWaits (V d (cV i) (jV i)) none O
        ∗ fl0 d i arg2 arg3 arg6 arg7 arg10 q f g N 0 ∗ fl1 d i arg2 arg3 arg6 arg7 arg11 q f g N 1 ∗ owing d i O W)
      ⊢ iprop((∀ a : Acc F,
            iprop(⌜a = chunksFold ⟨v6, v9, v12, v15, v18, v21, v24, v27, v30⟩ (chunkVal d i arg2 f) (chunkVal d i arg3 g) 27
                (v31, v31, v31, v31, v31, v31, v31, v31)⌝
              ∗ holds d i (slot0 arg6) (chunkVal d i arg2 f 26) ∗ holds d i (slot0 arg7) (chunkVal d i arg3 g 26)
              ∗ share d i q.left arg2 f ∗ share d i q.left arg3 g ∗ semVal ((V d (cV i) (jV i)), .dma arg10.sem) 0
              ∗ flight' d i arg11.sem (slot1 arg6) (slot1 arg7) arg2 arg3 (offC i 27) (offC_inb i 27) q.right f g N ∗ owing d i O W)
            -∗ Φ ⟨a.1, a.2.1, a.2.2.1, a.2.2.2.1, a.2.2.2.2.1, a.2.2.2.2.2.1, a.2.2.2.2.2.2.1, a.2.2.2.2.2.2.2⟩)
          -∗ wpT d i (k0_part21 i arg2 harg2 arg3 harg3 arg4 harg4 arg5 harg5 arg6 harg6 arg7 harg7 arg8 harg8 arg9 harg9 arg10 arg11 v99_r0 v99_r1 v3 v6 v9 v12 v15 v18 v21 v24 v27 v30 v31 c0 c1) Φ) := by
  simp only [k0_part21_eq_skeleton, k0_part21_skel, wp_bind, wp_pure]
  iintro ⟨#Hmw, H0, H1, HO⟩ HΦ
  iapply (t1_run d i arg2 harg2 arg3 harg3 arg4 harg4 arg5 harg5 arg6 harg6 arg7 harg7 arg8 harg8 arg9 harg9 arg10 arg11 v99_r0 v99_r1
        v6 v9 v12 v15 v18 v21 v24 v27 v30 q f g N O W hN0 h0p h0t h1p h1t v3 c0 c1 v31 _ _) $$ [H0 H1 HO]
  · isplitr; · iexact Hmw
    isplitl [H0]; · iexact H0
    isplitl [H1] <;> iassumption
  iintro ⟨H0, H1, HO⟩
  generalize hb : chunksFold (F := F) _ _ _ 26 _ = b
  obtain ⟨b0, b1, b2, b3, b4, b5, b6, b7⟩ := b
  simp only []
  unfold fl0 fl1
  iapply (wait_first d i arg10.sem (slot0 arg6) (slot0 arg7) arg2 arg3 (offC i 26) (offC_inb i _) q.left f g O W N hN0 h0p _) $$ [H0 HO]
  · isplitr; · iexact Hmw
    isplitl [H0] <;> iassumption
  iintro ⟨H0, HO⟩
  iapply (wait_last d i arg10.sem (slot0 arg6) (slot0 arg7) arg2 arg3 (offC i 26) (offC_inb i _) q.left f g O W N hN0 h0t _) $$ [H0 HO]
  · isplitr; · iexact Hmw
    isplitl [H0] <;> iassumption
  iintro ⟨Hp0, Ht0, Hx0, Hy0, Hs0, HO⟩
  rw [t6_eq i arg2 harg2 arg3 harg3 arg4 harg4 arg5 harg5 arg6 harg6 arg7 harg7 arg8 harg8 arg9 harg9 arg10 arg11 v99_r0 v99_r1 v6 v9 v12 v15 v18 v21 v24 v27 v30]
  iapply (rows_runK d i _ (slot0 arg6) (slot0 arg7) (chunkVal d i arg2 f 26) (chunkVal d i arg3 g 26) _ _) $$ [Hp0 Ht0]
  · isplitl [Hp0]; · iexact Hp0
    iexact Ht0
  iintro ⟨Hp0, Ht0⟩
  generalize hc : unitsFold (F := F) _ _ _ 128 _ = c
  obtain ⟨e0, e1, e2, e3, e4, e5, e6, e7⟩ := c
  simp only []
  iapply (wait_first d i arg11.sem (slot1 arg6) (slot1 arg7) arg2 arg3 (offC i 27) (offC_inb i _) q.right f g O W N hN0 h1p _) $$ [H1 HO]
  · isplitr; · iexact Hmw
    isplitl [H1] <;> iassumption
  iintro ⟨H1, HO⟩
  imodintro
  ispecialize HΦ $$ %(e0, e1, e2, e3, e4, e5, e6, e7)
  iapply HΦ
  isplitr
  · ipureintro
    rw [← hc, ← hb]; rfl
  isplitl [Hp0]; · iexact Hp0
  isplitl [Ht0]; · iexact Ht0
  isplitl [Hx0]; · iexact Hx0
  isplitl [Hy0]; · iexact Hy0
  isplitl [Hs0]; · iexact Hs0
  isplitl [H1] <;> iassumption

end Body

end Cert.Proof.Wmse

end
-- ==== Proof.Tile.lean ====
/-
  A tile's whole run: the thresholds and weights fetched, the chunks summed, the sixteen partial sums written out.
-/
module

public import proofs.«01_k».proof.Proof.Ring

@[expose] public section

noncomputable section

namespace Cert.Proof.Wmse

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-- A view, at a tile's thread, holding `X`. -/
def has {sp : Space} {s : Shape} {e : EltTy} (p : Memref sig .scVector sp s e) (X : s.Idx → Elt F e) : sProp 𝕄 :=
  iprop(∃ f, ⌜p.view.read (Elt F) f = X⌝ ∗ (p.view.loc (V d (cV i) (jV i)) ↦[p.view.set]{fullShare} f))

instance has_storable {sp : Space} {s : Shape} {e : EltTy} (p : Memref sig .scVector sp s e) (X : s.Idx → Elt F e) :
    Storable (upEmb : UEmb _ 𝕄) (has d i p X) := by unfold has; infer_instance

theorem has_elim {sp : Space} {s : Shape} {e : EltTy} (p : Memref sig .scVector sp s e) (X : s.Idx → Elt F e) :
    has d i p X ⊢ iprop(∃ f, ⌜p.view.read (Elt F) f = X⌝ ∗ (p.view.loc (V d (cV i) (jV i)) ↦[p.view.set]{fullShare} f)) := .rfl

theorem has_intro {sp : Space} {s : Shape} {e : EltTy} (p : Memref sig .scVector sp s e) (f : Buf (Elt F) (p.view.loc (V d (cV i) (jV i)))) :
    (p.view.loc (V d (cV i) (jV i)) ↦[p.view.set]{fullShare} f) ⊢ has d i p (p.view.read (Elt F) f) := by
  unfold has
  iintro H
  iexists f
  isplitr; · ipureintro; rfl
  iexact H

section Copy

variable {sp sp' : Space} {s : Shape} {e : EltTy} (sem : DmaSem sig) (src : Memref sig .scVector sp s e) (dst : Memref sig .scVector sp' s e)
  (q : PosShare TreeShare) (fs : Buf (Elt F) (src.view.loc (V d (cV i) (jV i)))) (N : ℕ)

/-- What one copy delivers. -/
def got : sProp 𝕄 :=
  iprop(has d i dst (src.view.read (Elt F) fs) ∗ (src.view.loc (V d (cV i) (jV i)) ↦[src.view.set]{q} fs))

instance got_storable : Storable (upEmb : UEmb _ 𝕄) (got d i src dst q fs) := by
  unfold got; infer_instance

/-- One copy on its way. -/
def sent : sProp 𝕄 := Transfers.Batch EC (V d (cV i) (jV i)) (.dma sem) none N (fun _ : Fin 1 => got d i src dst q fs) 1 0

theorem got_of (fd : Buf (Elt F) (dst.view.loc (V d (cV i) (jV i)))) :
    iprop((dst.view.loc (V d (cV i) (jV i)) ↦[dst.view.set]{fullShare} (dst.view.write (Elt F) fd
          ((ReadAs.same : ReadAs (Elt F) s e s e).apply (src.view.read (Elt F) fs)) Finset.univ))
        ∗ (src.view.loc (V d (cV i) (jV i)) ↦[src.view.set]{q} fs))
      ⊢ got d i src dst q fs := by
  unfold got has
  iintro ⟨Hp, Hx⟩
  isplitr [Hx]
  · iexists _
    isplitr
    swap; · iexact Hp
    · ipureintro; rw [View.read_write_univ]
  · iexact Hx

theorem copy_start (hN : dst.view.amount (.dma sem) = N) {hs : src.view.WordExact} {hd : dst.view.WordExact}
    {ht : DmaTarget.Typed (nD := nD) sp (.dma sem) (DmaTarget.here dst : DmaTarget nD τ sig (V d (cV i) (jV i)).2 sp' s e)}
    (X : s.Idx → Elt F e) (Φ : PUnit → sProp 𝕄) :
    iprop((src.view.loc (V d (cV i) (jV i)) ↦[src.view.set]{q} fs) ∗ has d i dst X ∗ semVal ((V d (cV i) (jV i)), .dma sem) 0)
      ⊢ iprop((sent d i sem src dst q fs N -∗ Φ ⟨⟩)
          -∗ wpT d i (Prog.lift (.enqueueDma src (.here dst) (.dma sem) hs hd ht)) Φ) := by
  iintro ⟨Hx, Hp, Hsem⟩ HΦ
  unfold wpT
  imod (Transfers.batch_alloc' (Lvl := ℕ) EC (V d (cV i) (jV i)) none N (fun _ : Fin 1 => got d i src dst q fs) (sm := .dma sem) (E := Set.univ)) $$ Hsem with HB
  unfold has
  icases Hp with ⟨%fp, %hfp, Hp⟩
  iapply (Transfers.wp_dmaBatch EC 𝒱₀ (V d (cV i) (jV i)) none (src := src) (dst := dst) none N hN subset_rfl
    (D := fun _ : Fin 1 => got d i src dst q fs) (j := 0) (u := 0) (q := q) (fs := fs) (fd := fp) (Sd := dst.view.set) (by decide) (Nat.zero_le _)
    (got_of d i src dst q fs fp)) $$ [Hx Hp HB]
  · isplitl [Hx]; · iexact Hx
    isplitl [Hp]; · iexact Hp
    iexact HB
  iintro HB
  rw [wp_ret]; imodintro
  iapply HΦ
  unfold sent
  iexact HB

variable (O : CellTallies nD τ sig (HIx 1)) (W : Waits sig (HIx 1))

theorem copy_wait (hN0 : 0 < N) {hs : src.view.WordExact} {hd : dst.view.WordExact} (hN : dst.view.dmaCredit = N) (Φ : PUnit → sProp 𝕄) :
    iprop(Transfers.MayWaits (V d (cV i) (jV i)) none O ∗ sent d i sem src dst q fs N ∗ owing d i O W)
      ⊢ iprop((iprop((src.view.loc (V d (cV i) (jV i)) ↦[src.view.set]{q} fs) ∗ has d i dst (src.view.read (Elt F) fs)
              ∗ semVal ((V d (cV i) (jV i)), .dma sem) 0 ∗ owing d i O W) -∗ Φ ⟨⟩)
          -∗ wpT d i (Prog.lift (.waitDma2 sem src dst hs hd)) Φ) := by
  unfold sent owing
  iintro ⟨#Hmw, HB, ⟨%W', %hW, HO⟩⟩ HΦ
  unfold wpT
  iapply (Transfers.wp_waitBatchLastO EC 𝒱₀ (V d (cV i) (jV i)) none (srcw := src) (dstw := dst) none hN hN0
    (D := fun _ : Fin 1 => got d i src dst q fs) (u := 0) (by omega)) $$ [HB HO]
  · isplitl [HB]; · iexact HB
    isplitl [HO]; · iexact HO
    iapply (Transfers.MayWaits.elim (SemLoc.dma sem)) $$ Hmw
  iintro ⟨HD, Hsem, HO⟩
  rw [wp_ret]; imodintro
  ihave HD' := (Entails.of_eq (bigSep_univ_of_subsingleton (0 : Fin 1) (Φ := fun _ : Fin 1 => got d i src dst q fs))) $$ HD
  unfold got
  icases HD' with ⟨Hp, Hx⟩
  iapply HΦ
  isplitl [Hx]; · iexact Hx
  isplitl [Hp]; · iexact Hp
  isplitl [Hsem]; · iexact Hsem
  iexists _
  isplitr
  swap; · iexact HO
  · ipureintro; exact owing_insert W W' hW _

end Copy

theorem load_has {cs : CoreSpace} {s : Shape} {e : EltTy} (p : Memref sig .scVector cs s e) (r : LoadRect s) (hl : p.view.LoadsAt r)
    (X : s.Idx → Elt F e) (Φ : (r.shape.Idx → Elt F e) → sProp 𝕄) :
    has d i p X ⊢ iprop((has d i p X -∗ Φ (fun x => X (r.idx x))) -∗ wpT d i (Prog.lift (.load p r hl)) Φ) := by
  unfold has
  iintro ⟨%f, %hf, Hp⟩ HΦ
  iapply (wp_lift_load d i p r hl (S := p.view.set) (f := f) (View.setOn_subset_set _ _) _) $$ Hp
  iintro Hp
  rw [show p.view.readAt (Elt F) r f = fun x => X (r.idx x) from by rw [← hf]; rfl]
  iapply HΦ
  iexists f
  isplitr; · ipureintro; exact hf
  iexact Hp

theorem idx_all (x : S16.Idx) : (Rect.unit (s := S16) ![0] S16.size inb_S16_S16_0).toLoadRect.idx x = x := by
  funext a
  apply Fin.ext
  fin_cases a
  show 0 + 1 * (x 0).val = (x 0).val
  omega

/-- The sixteen partial sums stored over the staging buffer. -/
theorem store_has (p : Memref sig .scVector .vmem S16 .f32) (w : FVec F S16 .f32)
    {hx : (p.access (Rect.unit (s := S16) ![0] S16.size inb_S16_S16_0)).Stores Finset.univ}
    {hm : (Finset.univ : Finset (Rect.unit (s := S16) ![0] S16.size inb_S16_S16_0).shape.Idx) = Finset.univ
      ∨ ∀ a, (Rect.unit (s := S16) ![0] S16.size inb_S16_S16_0).stride a = 1}
    (X : S16.Idx → Elt F .f32) (Φ : PUnit → sProp 𝕄) :
    has d i p X ⊢ iprop((has d i p w -∗ Φ ⟨⟩)
      -∗ wpT d i (Prog.lift (.store p (Rect.unit (s := S16) ![0] S16.size inb_S16_S16_0) w Finset.univ hx hm)) Φ) := by
  unfold has
  iintro ⟨%f, %hf, Hp⟩ HΦ
  have hS : (p.access (Rect.unit (s := S16) ![0] S16.size inb_S16_S16_0)).setOn Finset.univ ⊆ p.view.set := by
    show (p.view.slice (Rect.unit (s := S16) ![0] S16.size inb_S16_S16_0)).set ⊆ _
    exact View.set_slice_subset _ _
  iapply (wp_store (c := V d (cV i) (jV i)) 𝒱₀ none Set.univ (k := Prog.ret) (hx := hx) (hm := hm) (f := f) hS) $$ Hp
  iintro Hp
  rw [wp_ret]; imodintro
  iapply HΦ
  iexists _
  isplitr
  swap; · iexact Hp
  · ipureintro
    have h := View.read_write_univ (v := p.access (Rect.unit (s := S16) ![0] S16.size inb_S16_S16_0)) f w
    funext x
    refine Eq.trans ?_ (congrFun h x)
    show p.view.read (Elt F) _ x = p.view.read (Elt F) _ ((Rect.unit (s := S16) ![0] S16.size inb_S16_S16_0).toLoadRect.idx x)
    rw [idx_all]

/-- The thresholds and weights, from the nine rows fetched. -/
def constsOf (X : S9x16.Idx → Elt F .f32) : Consts F :=
  ⟨k0_pay57 fun x => X ((Rect.unit (s := S9x16) ![0, 0] S1x16.size inb_S9x16_S1x16_0_0).toLoadRect.idx x),
    k0_pay58 fun x => X ((Rect.unit (s := S9x16) ![1, 0] S1x16.size inb_S9x16_S1x16_1_0).toLoadRect.idx x),
    k0_pay59 fun x => X ((Rect.unit (s := S9x16) ![2, 0] S1x16.size inb_S9x16_S1x16_2_0).toLoadRect.idx x),
    k0_pay60 fun x => X ((Rect.unit (s := S9x16) ![3, 0] S1x16.size inb_S9x16_S1x16_3_0).toLoadRect.idx x),
    k0_pay61 fun x => X ((Rect.unit (s := S9x16) ![4, 0] S1x16.size inb_S9x16_S1x16_4_0).toLoadRect.idx x),
    k0_pay62 fun x => X ((Rect.unit (s := S9x16) ![5, 0] S1x16.size inb_S9x16_S1x16_5_0).toLoadRect.idx x),
    k0_pay63 fun x => X ((Rect.unit (s := S9x16) ![6, 0] S1x16.size inb_S9x16_S1x16_6_0).toLoadRect.idx x),
    k0_pay64 fun x => X ((Rect.unit (s := S9x16) ![7, 0] S1x16.size inb_S9x16_S1x16_7_0).toLoadRect.idx x),
    k0_pay65 fun x => X ((Rect.unit (s := S9x16) ![8, 0] S1x16.size inb_S9x16_S1x16_8_0).toLoadRect.idx x)⟩

theorem chunksFold_last (C : Consts F) (px py : ℕ → S16x1024.Idx → Elt F .f32) (a : Acc F) :
    chunksFold C px py 28 a = unitsFold C (px 27) (py 27) 128 (chunksFold C px py 27 a) := rfl

/-- A tile's sixteen partial sums: its 28 chunks through the eight accumulators, and those added up. -/
def tileVec (X : S9x16.Idx → Elt F .f32) (px py : ℕ → S16x1024.Idx → Elt F .f32) : FVec F S16 .f32 :=
  let z : FVec F S16 .f32 := k0_pay66 (F := F)
  let a := chunksFold (constsOf X) px py 28 (z, z, z, z, z, z, z, z)
  k0_pay2 a.1 a.2.1 a.2.2.1 a.2.2.2.1 a.2.2.2.2.1 a.2.2.2.2.2.1 a.2.2.2.2.2.2.1 a.2.2.2.2.2.2.2

theorem share_halves (q : PosShare TreeShare) (b : Memref sig .scVector .hbm S32768x1024 .f32) (k : Buf (Elt F) (b.view.loc (V d (cV i) (jV i)))) :
    share d i q b k ⊣⊢ iprop(share d i q.left b k ∗ share d i q.right b k) :=
  pointsTo_share (PosShare.mem_left_op_right q)

section Body

variable (arg2 : Memref sig .scVector .hbm S32768x1024 .f32) (harg2 : arg2.IsWhole) (arg3 : Memref sig .scVector .hbm S32768x1024 .f32) (harg3 : arg3.IsWhole)
  (arg4 : Memref sig .scVector .hbm S9x16 .f32) (harg4 : arg4.IsWhole) (arg5 : Memref sig .scVector .hbm S512 .f32) (harg5 : arg5.IsWhole)
  (arg6 : Memref sig .scVector .vmem S2x16x1024 .f32) (harg6 : arg6.IsWhole) (arg7 : Memref sig .scVector .vmem S2x16x1024 .f32) (harg7 : arg7.IsWhole)
  (arg8 : Memref sig .scVector .vmem S9x16 .f32) (harg8 : arg8.IsWhole) (arg9 : Memref sig .scVector .vmem S16 .f32) (harg9 : arg9.IsWhole)
  (arg10 arg11 v99_r0 v99_r1 : DmaSems sig S_)
  (q qc : PosShare TreeShare) (f : Buf (Elt F) (arg2.view.loc (V d (cV i) (jV i)))) (g : Buf (Elt F) (arg3.view.loc (V d (cV i) (jV i))))
  (h : Buf (Elt F) (arg4.view.loc (V d (cV i) (jV i)))) (N N8 N5 : ℕ)
  (O : CellTallies nD τ sig (HIx 1)) (W : Waits sig (HIx 1))

/-- The thresholds and weights fetched into the tile's memory and read row by row. -/
theorem part19_run (hN8 : 0 < N8) (h8 : arg8.view.dmaCredit = N8) (X : S9x16.Idx → Elt F .f32) (Φ : _ → sProp 𝕄) :
    iprop(Transfers.MayWaits (V d (cV i) (jV i)) none O
        ∗ (arg4.view.loc (V d (cV i) (jV i)) ↦[arg4.view.set]{qc} h) ∗ has d i arg8 X ∗ semVal ((V d (cV i) (jV i)), .dma v99_r0.sem) 0 ∗ owing d i O W)
      ⊢ iprop((∀ r, iprop(⌜r = ⟨Scalar.addi (Scalar.muli (BitVec.ofNat 32 (i 1).val) 2#32) (BitVec.ofNat 32 (i 0).val),   Scalar.addi 18432#32 (Scalar.muli (Scalar.addi (Scalar.muli (BitVec.ofNat 32 (i 1).val) 2#32) (BitVec.ofNat 32 (i 0).val)) 448#32),   (constsOf (arg4.view.read (Elt F) h)).t0, (constsOf (arg4.view.read (Elt F) h)).t1, (constsOf (arg4.view.read (Elt F) h)).t2, (constsOf (arg4.view.read (Elt F) h)).t3, (constsOf (arg4.view.read (Elt F) h)).w0, (constsOf (arg4.view.read (Elt F) h)).w1, (constsOf (arg4.view.read (Elt F) h)).w2, (constsOf (arg4.view.read (Elt F) h)).w3, (constsOf (arg4.view.read (Elt F) h)).w4, k0_pay66 (F := F)⟩⌝ ∗ (arg4.view.loc (V d (cV i) (jV i)) ↦[arg4.view.set]{qc} h) ∗ has d i arg8 (arg4.view.read (Elt F) h)
              ∗ semVal ((V d (cV i) (jV i)), .dma v99_r0.sem) 0 ∗ owing d i O W)
            -∗ Φ r)
          -∗ wpT d i (k0_part19 i arg2 harg2 arg3 harg3 arg4 harg4 arg5 harg5 arg6 harg6 arg7 harg7 arg8 harg8 arg9 harg9 arg10 arg11 v99_r0 v99_r1) Φ) := by
  simp only [k0_part19_eq_skeleton, k0_part19_skel, wp_bind, wp_pure]
  iintro ⟨#Hmw, H4, Hc, Hs, HO⟩ HΦ
  iapply (copy_start d i v99_r0.sem arg4 arg8 qc h N8 h8 X _) $$ [H4 Hc Hs]
  · isplitl [H4]; · iexact H4
    isplitl [Hc] <;> iassumption
  iintro Hc
  iapply (copy_wait d i v99_r0.sem arg4 arg8 qc h N8 O W hN8 h8 _) $$ [Hc HO]
  · isplitr; · iexact Hmw
    isplitl [Hc] <;> iassumption
  iintro ⟨H4, Hc, Hs, HO⟩
  iapply (load_has d i arg8 _ _ (arg4.view.read (Elt F) h) _) $$ Hc
  iintro Hc
  iapply (load_has d i arg8 _ _ (arg4.view.read (Elt F) h) _) $$ Hc
  iintro Hc
  iapply (load_has d i arg8 _ _ (arg4.view.read (Elt F) h) _) $$ Hc
  iintro Hc
  iapply (load_has d i arg8 _ _ (arg4.view.read (Elt F) h) _) $$ Hc
  iintro Hc
  iapply (load_has d i arg8 _ _ (arg4.view.read (Elt F) h) _) $$ Hc
  iintro Hc
  iapply (load_has d i arg8 _ _ (arg4.view.read (Elt F) h) _) $$ Hc
  iintro Hc
  iapply (load_has d i arg8 _ _ (arg4.view.read (Elt F) h) _) $$ Hc
  iintro Hc
  iapply (load_has d i arg8 _ _ (arg4.view.read (Elt F) h) _) $$ Hc
  iintro Hc
  iapply (load_has d i arg8 _ _ (arg4.view.read (Elt F) h) _) $$ Hc
  iintro Hc
  imodintro
  ispecialize HΦ $$ %_
  iapply HΦ
  isplitr; · ipureintro; rfl
  isplitl [H4]; · iexact H4
  isplitl [Hc]; · iexact Hc
  isplitl [Hs] <;> iassumption

/-- The first two chunks' copies started. -/
theorem part20_run (h0p : (slot0 arg6).view.dmaCredit = N) (h0t : (slot0 arg7).view.dmaCredit = N)
    (h1p : (slot1 arg6).view.dmaCredit = N) (h1t : (slot1 arg7).view.dmaCredit = N) (v3 : BitVec 32)
    (X0 Y0 X1 Y1 : S16x1024.Idx → Elt F .f32) (Φ : _ → sProp 𝕄) :
    iprop(holds d i (slot0 arg6) X0 ∗ holds d i (slot0 arg7) Y0 ∗ holds d i (slot1 arg6) X1 ∗ holds d i (slot1 arg7) Y1
        ∗ share d i q.left arg2 f ∗ share d i q.left arg3 g ∗ share d i q.right arg2 f ∗ share d i q.right arg3 g
        ∗ semVal ((V d (cV i) (jV i)), .dma arg10.sem) 0 ∗ semVal ((V d (cV i) (jV i)), .dma arg11.sem) 0)
      ⊢ iprop((iprop(fl0 d i arg2 arg3 arg6 arg7 arg10 q f g N 0 ∗ fl1 d i arg2 arg3 arg6 arg7 arg11 q f g N 1) -∗ Φ ⟨0#32, 13#32⟩)
          -∗ wpT d i (k0_part20 i arg2 harg2 arg3 harg3 arg4 harg4 arg5 harg5 arg6 harg6 arg7 harg7 arg8 harg8 arg9 harg9 arg10 arg11 v99_r0 v99_r1 v3) Φ) := by
  simp only [k0_part20_eq_skeleton, k0_part20_skel, wp_bind, wp_pure]
  iintro ⟨Hp0, Ht0, Hp1, Ht1, Hx0, Hy0, Hx1, Hy1, Hs0, Hs1⟩ HΦ
  iapply (start_pred d i arg10.sem (slot0 arg6) (slot0 arg7) arg2 arg3 (k0_off1 i 0#32) (k0_off1_inb i 0) q.left f g N h0p _ _) $$ [Hp0 Hx0 Hs0]
  · isplitl [Hp0]; · iexact Hp0
    isplitl [Hx0] <;> iassumption
  iintro H0
  iapply (start_tgt d i arg10.sem (slot0 arg6) (slot0 arg7) arg2 arg3 (k0_off1 i 0#32) (k0_off1_inb i 0) q.left f g N h0t _ _) $$ [Ht0 Hy0 H0]
  · isplitl [H0]; · iexact H0
    isplitl [Ht0] <;> iassumption
  iintro H0
  iapply (start_pred d i arg11.sem (slot1 arg6) (slot1 arg7) arg2 arg3 (k0_off1 i 16#32) (k0_off1_inb i 1) q.right f g N h1p _ _) $$ [Hp1 Hx1 Hs1]
  · isplitl [Hp1]; · iexact Hp1
    isplitl [Hx1] <;> iassumption
  iintro H1
  iapply (start_tgt d i arg11.sem (slot1 arg6) (slot1 arg7) arg2 arg3 (k0_off1 i 16#32) (k0_off1_inb i 1) q.right f g N h1t _ _) $$ [Ht1 Hy1 H1]
  · isplitl [H1]; · iexact H1
    isplitl [Ht1] <;> iassumption
  iintro H1
  imodintro
  ihave H0 := Entails.of_eq (flight_congr d i arg10.sem (slot0 arg6) (slot0 arg7) arg2 arg3 (o := k0_off1 i 0#32) (k0_off1_inb i 0)
    (offC_inb i 0) (off1_offC0 i) q.left f g N) $$ H0
  ihave H1 := Entails.of_eq (flight_congr d i arg11.sem (slot1 arg6) (slot1 arg7) arg2 arg3 (o := k0_off1 i 16#32) (k0_off1_inb i 1)
    (offC_inb i 1) (off1_offC1 i) q.right f g N) $$ H1
  iapply HΦ
  unfold fl0 fl1
  isplitl [H0] <;> iassumption

attribute [local irreducible] unitsFold chunksFold

set_option maxHeartbeats 1000000 in
/-- The tile's run. -/
theorem body_run (hN0 : 0 < N) (h0p : (slot0 arg6).view.dmaCredit = N) (h0t : (slot0 arg7).view.dmaCredit = N)
    (h1p : (slot1 arg6).view.dmaCredit = N) (h1t : (slot1 arg7).view.dmaCredit = N)
    (hN8 : 0 < N8) (h8 : arg8.view.dmaCredit = N8) (hN5 : 0 < N5)
    (h5 : (arg5.slice (Rect.unit (s := S512) (k0_off9 i) S16.size (k0_off9_inb i)) (fun _ => rfl)).view.dmaCredit = N5)
    (X0 Y0 X1 Y1 : S16x1024.Idx → Elt F .f32) (X8 : S9x16.Idx → Elt F .f32) (X9 X5 : S16.Idx → Elt F .f32) :
    iprop(Transfers.MayWaits (V d (cV i) (jV i)) none O
        ∗ share d i q arg2 f ∗ share d i q arg3 g
        ∗ (arg4.view.loc (V d (cV i) (jV i)) ↦[arg4.view.set]{qc} h)
        ∗ has d i (arg5.slice (Rect.unit (s := S512) (k0_off9 i) S16.size (k0_off9_inb i)) (fun _ => rfl)) X5
        ∗ holds d i (slot0 arg6) X0 ∗ holds d i (slot0 arg7) Y0 ∗ holds d i (slot1 arg6) X1 ∗ holds d i (slot1 arg7) Y1
        ∗ has d i arg8 X8 ∗ has d i arg9 X9
        ∗ semVal ((V d (cV i) (jV i)), .dma arg10.sem) 0 ∗ semVal ((V d (cV i) (jV i)), .dma arg11.sem) 0
        ∗ semVal ((V d (cV i) (jV i)), .dma v99_r0.sem) 0 ∗ semVal ((V d (cV i) (jV i)), .dma v99_r1.sem) 0 ∗ owing d i O W)
      ⊢ wpT d i (cc0__sc_body i arg2 harg2 arg3 harg3 arg4 harg4 arg5 harg5 arg6 harg6 arg7 harg7 arg8 harg8 arg9 harg9 arg10 arg11 v99_r0 v99_r1) fun _ =>
        iprop(share d i q arg2 f ∗ share d i q arg3 g
        ∗ (arg4.view.loc (V d (cV i) (jV i)) ↦[arg4.view.set]{qc} h)
        ∗ has d i (arg5.slice (Rect.unit (s := S512) (k0_off9 i) S16.size (k0_off9_inb i)) (fun _ => rfl))
            (tileVec (arg4.view.read (Elt F) h) (chunkVal d i arg2 f) (chunkVal d i arg3 g))
        ∗ (∃ X, holds d i (slot0 arg6) X) ∗ (∃ X, holds d i (slot0 arg7) X) ∗ (∃ X, holds d i (slot1 arg6) X) ∗ (∃ X, holds d i (slot1 arg7) X)
        ∗ (∃ X, has d i arg8 X) ∗ (∃ X, has d i arg9 X)
        ∗ semVal ((V d (cV i) (jV i)), .dma arg10.sem) 0 ∗ semVal ((V d (cV i) (jV i)), .dma arg11.sem) 0
        ∗ semVal ((V d (cV i) (jV i)), .dma v99_r0.sem) 0 ∗ semVal ((V d (cV i) (jV i)), .dma v99_r1.sem) 0 ∗ owing d i O W) := by
  simp only [cc0__sc_body_eq_skeleton, cc0__sc_body_skel, wp_bind, wp_pure]
  iintro ⟨#Hmw, Hx, Hy, H4, H5, Hp0, Ht0, Hp1, Ht1, H8, H9, Hs0, Hs1, Hsa, Hsb, HO⟩
  iapply (part19_run d i arg2 harg2 arg3 harg3 arg4 harg4 arg5 harg5 arg6 harg6 arg7 harg7 arg8 harg8 arg9 harg9 arg10 arg11 v99_r0 v99_r1 qc h N8 O W hN8 h8 X8 _) $$ [H4 H8 Hsa HO]
  · isplitr; · iexact Hmw
    isplitl [H4]; · iexact H4
    isplitl [H8]; · iexact H8
    isplitl [Hsa] <;> iassumption
  iintro %r ⟨%hr, H4, H8, Hsa, HO⟩
  subst hr
  simp only []
  ihave Hx := (share_halves d i q arg2 f).1 $$ Hx
  ihave Hy := (share_halves d i q arg3 g).1 $$ Hy
  icases Hx with ⟨Hx0, Hx1⟩
  icases Hy with ⟨Hy0, Hy1⟩
  iapply (part20_run d i arg2 harg2 arg3 harg3 arg4 harg4 arg5 harg5 arg6 harg6 arg7 harg7 arg8 harg8 arg9 harg9 arg10 arg11 v99_r0 v99_r1 q f g N h0p h0t h1p h1t _ X0 Y0 X1 Y1 _) $$ [Hp0 Ht0 Hp1 Ht1 Hx0 Hy0 Hx1 Hy1 Hs0 Hs1]
  · isplitl [Hp0]; · iexact Hp0
    isplitl [Ht0]; · iexact Ht0
    isplitl [Hp1]; · iexact Hp1
    isplitl [Ht1]; · iexact Ht1
    isplitl [Hx0]; · iexact Hx0
    isplitl [Hy0]; · iexact Hy0
    isplitl [Hx1]; · iexact Hx1
    isplitl [Hy1]; · iexact Hy1
    isplitl [Hs0] <;> iassumption
  iintro ⟨H0, H1⟩
  simp only []
  iapply (part21_run d i arg2 harg2 arg3 harg3 arg4 harg4 arg5 harg5 arg6 harg6 arg7 harg7 arg8 harg8 arg9 harg9 arg10 arg11 v99_r0 v99_r1 _ _ _ _ _ _ _ _ _ q f g N O W hN0 h0p h0t h1p h1t _ _ _ _ _) $$ [H0 H1 HO]
  · isplitr; · iexact Hmw
    isplitl [H0]; · iexact H0
    isplitl [H1] <;> iassumption
  iintro %a ⟨%ha, Hp0, Ht0, Hx0, Hy0, Hs0, H1, HO⟩
  simp only []
  iapply (wait_last d i arg11.sem (slot1 arg6) (slot1 arg7) arg2 arg3 (offC i 27) (offC_inb i _) q.right f g O W N hN0 h1t _) $$ [H1 HO]
  · isplitr; · iexact Hmw
    isplitl [H1] <;> iassumption
  iintro ⟨Hp1, Ht1, Hx1, Hy1, Hs1, HO⟩
  rw [t8_eq i arg2 harg2 arg3 harg3 arg4 harg4 arg5 harg5 arg6 harg6 arg7 harg7 arg8 harg8 arg9 harg9 arg10 arg11 v99_r0 v99_r1]
  iapply (rows_runK d i _ (slot1 arg6) (slot1 arg7) (chunkVal d i arg2 f 27) (chunkVal d i arg3 g 27) _ _) $$ [Hp1 Ht1]
  · isplitl [Hp1]; · iexact Hp1
    iexact Ht1
  iintro ⟨Hp1, Ht1⟩
  iapply (load_has d i arg9 _ _ X9 _) $$ H9
  iintro H9
  iapply (store_has d i arg9 _ X9 _) $$ H9
  iintro H9
  ihave H9 := (has_elim d i arg9 _) $$ H9
  icases H9 with ⟨%f9, %hf9, H9⟩
  iapply (copy_start d i v99_r1.sem arg9 (arg5.slice (Rect.unit (s := S512) (k0_off9 i) S16.size (k0_off9_inb i)) (fun _ => rfl)) fullShare f9 N5 h5 X5 _) $$ [H9 H5 Hsb]
  · isplitl [H9]; · iexact H9
    isplitl [H5] <;> iassumption
  iintro H5
  iapply (copy_wait d i v99_r1.sem arg9 (arg5.slice (Rect.unit (s := S512) (k0_off9 i) S16.size (k0_off9_inb i)) (fun _ => rfl)) fullShare f9 N5 O W hN5 h5 _) $$ [H5 HO]
  · isplitr; · iexact Hmw
    isplitl [H5] <;> iassumption
  iintro ⟨H9, H5, Hsb, HO⟩
  imodintro
  isplitl [Hx0 Hx1]
  · iapply (share_halves d i q arg2 f).2; isplitl [Hx0] <;> iassumption
  isplitl [Hy0 Hy1]
  · iapply (share_halves d i q arg3 g).2; isplitl [Hy0] <;> iassumption
  isplitl [H4]; · iexact H4
  isplitl [H5]
  · unfold has
    icases H5 with ⟨%f5, %hf5, H5⟩
    iexists f5
    isplitr
    swap; · iexact H5
    · ipureintro
      rw [hf5, hf9]
      unfold tileVec
      simp only []
      rw [chunksFold_last]
      clear hf5 hf9
      generalize constsOf (arg4.view.read (Elt F) h) = C at ha ⊢
      rw [← show a = chunksFold C (chunkVal d i arg2 f) (chunkVal d i arg3 g) 27 (k0_pay66, k0_pay66, k0_pay66, k0_pay66, k0_pay66, k0_pay66, k0_pay66, k0_pay66) from ha]
  isplitl [Hp0]; · iexists _; iexact Hp0
  isplitl [Ht0]; · iexists _; iexact Ht0
  isplitl [Hp1]; · iexists _; iexact Hp1
  isplitl [Ht1]; · iexists _; iexact Ht1
  isplitl [H8]; · iexists _; iexact H8
  isplitl [H9]
  · iexists (arg9.view.read (Elt F) f9)
    iapply (has_intro d i arg9 f9) $$ H9
  isplitl [Hs0]; · iexact Hs0
  isplitl [Hs1]; · iexact Hs1
  isplitl [Hsa]; · iexact Hsa
  isplitl [Hsb] <;> iassumption

end Body

end Cert.Proof.Wmse

end
-- ==== Proof.Share.lean ====
/-
  What the SparseCores' call computes, as a function of its three arrays, and the parts of its operands that each tile
  works on.
-/
module

public import proofs.«01_k».proof.Proof.Tile
public import Idealize.ShloMosaic.Lib.ShareLeaves
public import Idealize.ShloMosaic.Lib.ValueIdx

@[expose] public section

noncomputable section

namespace Cert.Proof.Wmse

open Cert.KernelIdeal Cert.KernelIdeal.Gen

open Idealize.ShloMosaic
open Idealize.ShloMosaic.ValueIdx (ix1 ix2)
open Idealize.ShloMosaic.ShareLeaves (leaf pointsTo_leaves)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The value -/

/-- Row `r` of an array of 32768 rows, counted round the end, at column `c`. -/
def rowAt (f : S32768x1024.Idx → Elt F .f32) (r : ℕ) (c : Fin 1024) : Elt F .f32 :=
  f (ix2 ⟨r % 32768, Nat.mod_lt _ (by omega)⟩ c)

/-- Chunk `n` of tile `w`: sixteen rows of an array, from row `18432 + 448 w + 16 n`. -/
def scRows (w : ℕ) (f : S32768x1024.Idx → Elt F .f32) (n : ℕ) : S16x1024.Idx → Elt F .f32 := fun x =>
  rowAt f (448 * w + 16 * (n % 28) + 18432 + (x 0).val) (x 1)

/-- The sixteen partial sums of tile `w`. -/
def tileSum (f g : S32768x1024.Idx → Elt F .f32) (h : S9x16.Idx → Elt F .f32) (w : ℕ) : FVec F S16 .f32 :=
  tileVec h (scRows w f) (scRows w g)

/-- The 512 partial sums of the 32 tiles. -/
def scOut (f g : S32768x1024.Idx → Elt F .f32) (h : S9x16.Idx → Elt F .f32) : S512.Idx → Elt F .f32 := fun y =>
  tileSum f g h ((y 0).val / 16) (ix1 ⟨(y 0).val % 16, Nat.mod_lt _ (by omega)⟩)

/-! ## A tile's part of the operands -/

def coordsV (c : Fin (grid0.bound 0)) (s : Fin (grid0.bound 1)) : grid0.Coords :=
  fun | 0 => c | 1 => s | ⟨_ + 2, h⟩ => absurd h (Nat.not_lt.2 (Nat.le_add_left _ _))

theorem coordsV_eta (i : grid0.Coords) : coordsV (i 0) (i 1) = i := by
  funext a
  match a with
  | 0 => rfl
  | 1 => rfl

/-- The tile's number. -/
def wid (i : grid0.Coords) : ℕ := 2 * (i 1).val + (i 0).val

abbrev outRect (i : grid0.Coords) : Rect S512 := Rect.unit (s := S512) (k0_off9 i) S16.size (k0_off9_inb i)

theorem mem_outRect (i : grid0.Coords) (y : S512.Idx) : y ∈ (outRect i).set ↔ (y 0).val / 16 = wid i := by
  rw [Rect.mem_set_unit, k0_off9_eq]
  unfold wid
  constructor
  · intro h
    have := h 0
    simp only [Matrix.cons_val_zero] at this
    have e : S16.size 0 = 16 := rfl
    omega
  · intro h a
    fin_cases a
    show (![32 * (i 1).val + 16 * (i 0).val] : Fin 1 → ℕ) 0 ≤ (y 0).val ∧ (y 0).val < (![32 * (i 1).val + 16 * (i 0).val] : Fin 1 → ℕ) 0 + 16
    simp only [Matrix.cons_val_zero]
    omega

theorem wid_inj {i j : grid0.Coords} (h : wid i = wid j) : i = j := by
  have h0 : (i 0).val < 2 := (i 0).isLt
  have h1 : (j 0).val < 2 := (j 0).isLt
  unfold wid at h
  funext a
  match a with
  | 0 => exact Fin.ext (by omega)
  | 1 => exact Fin.ext (by omega)

theorem outRect_disjoint {i j : grid0.Coords} (h : i ≠ j) : Disjoint (outRect i).set (outRect j).set :=
  Finset.disjoint_left.mpr fun y hi hj => h (wid_inj (((mem_outRect i y).mp hi).symm.trans ((mem_outRect j y).mp hj)))

/-- What tile `s` of core `c` writes. -/
abbrev tileSet (c : Fin 2) (s : Fin 16) : Finset S512.Idx := (outRect (coordsV c s)).set
/-- What core `c`'s tiles write. -/
abbrev coreSet (c : Fin 2) : Finset S512.Idx := Finset.univ.biUnion (tileSet c)

theorem coordsV_ne {c c' : Fin 2} {s s' : Fin 16} (h : (c, s) ≠ (c', s')) : coordsV c s ≠ coordsV c' s' := fun e =>
  h (Prod.ext (congrFun e 0) (congrFun e 1))

theorem tileSet_disjoint (c : Fin 2) : ∀ s ∈ (Finset.univ : Finset (Fin 16)), ∀ s' ∈ (Finset.univ : Finset (Fin 16)), s ≠ s' → Disjoint (tileSet c s) (tileSet c s') :=
  fun _ _ _ _ h => outRect_disjoint (coordsV_ne fun e => h (congrArg Prod.snd e))

theorem coreSet_disjoint : ∀ c ∈ (Finset.univ : Finset (Fin 2)), ∀ c' ∈ (Finset.univ : Finset (Fin 2)), c ≠ c' → Disjoint (coreSet c) (coreSet c') := by
  intro c _ c' _ h
  refine Finset.disjoint_left.mpr fun y hy hy' => ?_
  obtain ⟨s, -, hs⟩ := Finset.mem_biUnion.mp hy
  obtain ⟨s', -, hs'⟩ := Finset.mem_biUnion.mp hy'
  exact Finset.disjoint_left.mp (outRect_disjoint (coordsV_ne (c := c) (s := s) (c' := c') (s' := s') fun e => h (congrArg Prod.fst e))) hs hs'

theorem coreSet_cover : (Finset.univ : Finset (Fin 2)).biUnion coreSet = Finset.univ := by
  refine Finset.eq_univ_of_forall fun y => ?_
  have hy : (y 0).val < 512 := (y 0).isLt
  refine Finset.mem_biUnion.mpr ⟨⟨(y 0).val / 16 % 2, by omega⟩, Finset.mem_univ _, Finset.mem_biUnion.mpr ⟨⟨(y 0).val / 32, by omega⟩, Finset.mem_univ _, ?_⟩⟩
  rw [mem_outRect]
  show _ = 2 * ((y 0).val / 32) + (y 0).val / 16 % 2
  omega

/-! ## The arrays among the tiles -/

abbrev predLoc (d : Dev nD) : Loc nD τ sig := (SparseCore.T d).loc main_v0
abbrev tgtLoc (d : Dev nD) : Loc nD τ sig := (SparseCore.T d).loc main_v1
abbrev constLoc (d : Dev nD) : Loc nD τ sig := (SparseCore.T d).loc main_v7
abbrev outLoc (d : Dev nD) : Loc nD τ sig := (SparseCore.T d).loc main_v8

/-- Tile `s` of core `c`'s share of an array that all read. -/
abbrev shareOf (c : Fin 2) (s : Fin 16) : PosShare TreeShare := leaf 4 (leaf 1 fullShare c) s

omit [FloatOps F] in
/-- A whole array, as the 32 tiles' shares of it. -/
theorem whole_shares {ℓ : Loc nD τ sig} (f : Buf (Elt F) ℓ) :
    (ℓ ↦{fullShare} f : sProp 𝕄) = bigSep Finset.univ fun c : Fin 2 => bigSep Finset.univ fun s : Fin 16 => ℓ ↦{shareOf c s} f := by
  rw [pointsTo_leaves Finset.univ f 1 fullShare]
  exact bigSep_congr fun c _ => pointsTo_leaves Finset.univ f 4 (leaf 1 fullShare c)

omit [FloatOps F] in
/-- The array of partial sums, as the 32 tiles' parts of it. -/
theorem whole_parts (d : Dev nD) (f : Buf (Elt F) (outLoc d)) :
    (outLoc d ↦{fullShare} f : sProp 𝕄)
      = bigSep Finset.univ fun c : Fin 2 => bigSep Finset.univ fun s : Fin 16 => outLoc d ↦[tileSet c s]{fullShare} f := by
  have h : (outLoc d ↦{fullShare} f : sProp 𝕄) = bigSep Finset.univ fun c : Fin 2 => outLoc d ↦[coreSet c]{fullShare} f := by
    rw [← pointsTo_biUnion Finset.univ (ℓ := outLoc d) coreSet coreSet_disjoint, coreSet_cover]; try rfl
  rw [h]
  exact bigSep_congr fun c _ => pointsTo_biUnion Finset.univ (ℓ := outLoc d) (tileSet c) (tileSet_disjoint c)

end Cert.Proof.Wmse

end
-- ==== Proof.Sc.lean ====
/-
  The SparseCores' call: what its handshakes carry, each tile's obligation, and how the operands split among the tiles.
-/
module

public import proofs.«01_k».proof.Proof.Share
public import Idealize.ShloMosaic.Lib.SparseCore.Quiescent

@[expose] public section

noncomputable section

namespace Cert.Proof.Wmse

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev EH : Emb UH (MT nD τ sig (HIx 1) (Elt F) ℕ UU ℕ) := embL

theorem nSub_zero : (K (F := F)).nSub 0 = 16 := rfl
theorem nCore_zero : (K (F := F)).nCore 0 = 2 := rfl

local notation "aV" => (Memref.whole Cert.KernelIdeal.main_v0_scv : Memref Cert.KernelIdeal.sig Kind.scVector Space.hbm Cert.KernelIdeal.S32768x1024 EltTy.f32)
local notation "bV" => (Memref.whole Cert.KernelIdeal.main_v1_scv : Memref Cert.KernelIdeal.sig Kind.scVector Space.hbm Cert.KernelIdeal.S32768x1024 EltTy.f32)
local notation "kV" => (Memref.whole Cert.KernelIdeal.main_v7_scv : Memref Cert.KernelIdeal.sig Kind.scVector Space.hbm Cert.KernelIdeal.S9x16 EltTy.f32)
local notation "oV" => (Memref.whole Cert.KernelIdeal.main_v8_scv : Memref Cert.KernelIdeal.sig Kind.scVector Space.hbm Cert.KernelIdeal.S512 EltTy.f32)
local notation "s0V" => (Memref.whole Cert.KernelIdeal.cc0_scratch0 : Memref Cert.KernelIdeal.sig Kind.scVector Space.vmem Cert.KernelIdeal.S2x16x1024 EltTy.f32)
local notation "s1V" => (Memref.whole Cert.KernelIdeal.cc0_scratch1 : Memref Cert.KernelIdeal.sig Kind.scVector Space.vmem Cert.KernelIdeal.S2x16x1024 EltTy.f32)
local notation "s2V" => (Memref.whole Cert.KernelIdeal.cc0_scratch2 : Memref Cert.KernelIdeal.sig Kind.scVector Space.vmem Cert.KernelIdeal.S9x16 EltTy.f32)
local notation "s3V" => (Memref.whole Cert.KernelIdeal.cc0_scratch3 : Memref Cert.KernelIdeal.sig Kind.scVector Space.vmem Cert.KernelIdeal.S16 EltTy.f32)

/-! ## What the handshakes carry -/

section Payload

variable (f g : Dev nD → S32768x1024.Idx → Elt F .f32) (h : Dev nD → S9x16.Idx → Elt F .f32)

/-- A tile's shares of the three arrays that it reads. -/
def reads (d : Dev nD) (c : Fin 2) (s : Fin 16) : sProp 𝕄 :=
  iprop((predLoc d ↦{shareOf c s} f d) ∗ (tgtLoc d ↦{shareOf c s} g d) ∗ (constLoc d ↦{shareOf c s} h d))

/-- What a tile takes, and what it brings back: its sixteen partial sums written. -/
def goes (d : Dev nD) (c : Fin 2) (s : Fin 16) : sProp 𝕄 := iprop(reads f g h d c s ∗ ∃ X, outLoc d ↦[tileSet c s]{fullShare} X)
def comes (d : Dev nD) (c : Fin 2) (s : Fin 16) : sProp 𝕄 :=
  iprop(reads f g h d c s ∗ outLoc d ↦[tileSet c s]{fullShare} scOut (f d) (g d) (h d))

instance reads_storable (d : Dev nD) (c : Fin 2) (s : Fin 16) : Storable (upEmb : UEmb _ 𝕄) (reads f g h d c s) := by unfold reads; infer_instance
instance goes_storable (d : Dev nD) (c : Fin 2) (s : Fin 16) : Storable (upEmb : UEmb _ 𝕄) (goes f g h d c s) := by unfold goes; infer_instance
instance comes_storable (d : Dev nD) (c : Fin 2) (s : Fin 16) : Storable (upEmb : UEmb _ 𝕄) (comes f g h d c s) := by unfold comes; infer_instance

/-- The call hands each SparseCore what its sixteen tiles take. -/
def P : (K (F := F)).Pay (nD := nD) (Val := Elt F) (Name := ℕ) (U := UU) where
  st := fun q d c => match q with | 0 => bigSep Finset.univ fun s : Fin 16 => goes f g h d (Fin.cast nCore_zero c) s
  dn := fun q d c => match q with | 0 => bigSep Finset.univ fun s : Fin 16 => comes f g h d (Fin.cast nCore_zero c) s
  go := fun q d c i => match q with | 0 => goes f g h d (Fin.cast nCore_zero c) (Fin.cast nSub_zero i)
  td := fun q d c i => match q with | 0 => comes f g h d (Fin.cast nCore_zero c) (Fin.cast nSub_zero i)
  x := fun _ _ => iprop(emp)

instance P_storable : (P f g h).IsStorable where
  st q d c := match q with
    | 0 => (inferInstance : BI.Storable (upEmb : UEmb _ 𝕄) (bigSep Finset.univ fun s : Fin 16 => goes f g h d (Fin.cast nCore_zero c) s))
  dn q d c := match q with
    | 0 => (inferInstance : BI.Storable (upEmb : UEmb _ 𝕄) (bigSep Finset.univ fun s : Fin 16 => comes f g h d (Fin.cast nCore_zero c) s))
  go q d c i := match q with
    | 0 => (inferInstance : BI.Storable (upEmb : UEmb _ 𝕄) (goes f g h d (Fin.cast nCore_zero c) (Fin.cast nSub_zero i)))
  td q d c i := match q with
    | 0 => (inferInstance : BI.Storable (upEmb : UEmb _ 𝕄) (comes f g h d (Fin.cast nCore_zero c) (Fin.cast nSub_zero i)))

end Payload

/-! ## The tile -/

section Tile

variable (d : Dev nD) (L : grid0.Coords)

/-! ### The two slots of a double buffer -/

omit [FloatOps F] in
theorem slots_disjoint (b : Memref sig .scVector .vmem S2x16x1024 .f32) : Disjoint (slot0 b).view.set (slot1 b).view.set := by
  show Disjoint ((b.view.slice (Rect.unit (s := S2x16x1024) ![0, 0, 0] S1x16x1024.size inb_S2x16x1024_S1x16x1024_0_0_0)).reshape S16x1024 squeezes_S1x16x1024_S16x1024.numel_eq).set
    ((b.view.slice (Rect.unit (s := S2x16x1024) ![1, 0, 0] S1x16x1024.size inb_S2x16x1024_S1x16x1024_1_0_0)).reshape S16x1024 squeezes_S1x16x1024_S16x1024.numel_eq).set
  rw [View.set_reshape, View.set_reshape, View.set_slice, View.set_slice]
  exact (Finset.disjoint_map _).mpr (Rect.unit_disjoint 0 (.inl (by decide)))

/-- What lies in neither slot. -/
def slotRest (b : Memref sig .scVector .vmem S2x16x1024 .f32) (f : Buf (Elt F) (b.view.loc (V d (cV L) (jV L)))) : sProp 𝕄 :=
  b.view.loc (V d (cV L) (jV L)) ↦[(Finset.univ \ (slot0 b).view.set) \ (slot1 b).view.set]{fullShare} f

omit [FloatOps F] in
theorem slot1_sub (b : Memref sig .scVector .vmem S2x16x1024 .f32) : (slot1 b).view.set ⊆ Finset.univ \ (slot0 b).view.set := fun _ hx =>
  Finset.mem_sdiff.mpr ⟨Finset.mem_univ _, Finset.disjoint_right.mp (slots_disjoint b) hx⟩

omit [FloatOps F] in
theorem slots_split (b : Memref sig .scVector .vmem S2x16x1024 .f32) (f : Buf (Elt F) (b.view.loc (V d (cV L) (jV L)))) :
    (b.view.loc (V d (cV L) (jV L)) ↦{fullShare} f : sProp 𝕄)
      ⊢ iprop(holds d L (slot0 b) ((slot0 b).view.read (Elt F) f) ∗ holds d L (slot1 b) ((slot1 b).view.read (Elt F) f) ∗ slotRest d L b f) := by
  iintro H
  ihave H := (pointsTo_split_subset (q := fullShare) (f := f) (S := Finset.univ) (Finset.subset_univ (slot0 b).view.set)).1 $$ H
  icases H with ⟨H0, H⟩
  ihave H := (pointsTo_split_subset (q := fullShare) (f := f) (slot1_sub b)).1 $$ H
  icases H with ⟨H1, H⟩
  unfold holds slotRest
  isplitl [H0]
  · iexists f; isplitr
    · ipureintro; rfl
    · iexact H0
  isplitl [H1]
  · iexists f; isplitr
    · ipureintro; rfl
    · iexact H1
  iexact H

omit [FloatOps F] in
theorem slots_join (b : Memref sig .scVector .vmem S2x16x1024 .f32) (f : Buf (Elt F) (b.view.loc (V d (cV L) (jV L)))) (X Y : S16x1024.Idx → Elt F .f32) :
    iprop(holds d L (slot0 b) X ∗ holds d L (slot1 b) Y ∗ slotRest d L b f)
      ⊢ (iprop(∃ k, b.view.loc (V d (cV L) (jV L)) ↦{fullShare} k) : sProp 𝕄) := by
  unfold holds slotRest
  iintro ⟨⟨%f0, -, H0⟩, ⟨%f1, -, H1⟩, H⟩
  ihave H := (pointsTo_join_subset (q := fullShare) (g := f1) (f := f) (slot1_sub b)) $$ [H1 H]
  · isplitl [H1]
    · iexact H1
    · iexact H
  ihave H := (pointsTo_join_subset (ℓ := b.view.loc (V d (cV L) (jV L))) (I := (slot0 b).view.set) (q := fullShare) (g := f0) (S := Finset.univ) (Finset.subset_univ (slot0 b).view.set)) $$ [H0 H]
  · isplitl [H0]
    · iexact H0
    · iexact H
  iexists _
  iexact H

/-! ### A tile's own buffers and semaphores -/

abbrev cell (d : Dev nD) (L : grid0.Coords) (s : DmaSems sig S_) : GSem nD τ sig := (V d (cV L) (jV L), .dma s.sem)

omit [FloatOps F] in
theorem ownSems0_V :
    (ownSems0 (V d (cV L) (jV L)) : sProp 𝕄)
      = iprop(semVal (cell d L cc0_scratch4) 0 ∗ semVal (cell d L cc0_scratch5) 0 ∗ semVal (cell d L cc0_scoped0) 0 ∗ semVal (cell d L cc0_scoped1) 0
          ∗ bigSep (((((ownCells (V d (cV L) (jV L))).erase (cell d L cc0_scratch4)).erase (cell d L cc0_scratch5)).erase (cell d L cc0_scoped0)).erase
              (cell d L cc0_scoped1)) fun g => semVal g 0) := by
  have m4 := (mem_ownCells (g := cell d L cc0_scratch4)).mpr ⟨rfl, by show (SemLoc.dma cc0_scratch4.sem : SemLoc sig).isScoped .scVector = true; decide⟩
  have m5 := (mem_ownCells (g := cell d L cc0_scratch5)).mpr ⟨rfl, by show (SemLoc.dma cc0_scratch5.sem : SemLoc sig).isScoped .scVector = true; decide⟩
  have m0 := (mem_ownCells (g := cell d L cc0_scoped0)).mpr ⟨rfl, by show (SemLoc.dma cc0_scoped0.sem : SemLoc sig).isScoped .scVector = true; decide⟩
  have m1 := (mem_ownCells (g := cell d L cc0_scoped1)).mpr ⟨rfl, by show (SemLoc.dma cc0_scoped1.sem : SemLoc sig).isScoped .scVector = true; decide⟩
  have n {s t : DmaSems sig S_} (hst : s.sem ≠ t.sem) : cell d L s ≠ cell d L t := fun e => hst (SemLoc.dma.inj (congrArg Prod.snd e))
  unfold SparseCore.Cfg.ownSems0
  rw [SparseCore.bigSep_erase' m4, SparseCore.bigSep_erase' (Finset.mem_erase.mpr ⟨n (by decide), m5⟩),
    SparseCore.bigSep_erase' (Finset.mem_erase.mpr ⟨n (by decide), Finset.mem_erase.mpr ⟨n (by decide), m0⟩⟩),
    SparseCore.bigSep_erase' (Finset.mem_erase.mpr ⟨n (by decide), Finset.mem_erase.mpr ⟨n (by decide), Finset.mem_erase.mpr ⟨n (by decide), m1⟩⟩⟩)]

abbrev own (L : grid0.Coords) (b : Ref sig .scVector) : DevRef τ sig := (Proc.scVector (cV L) (jV L)).devRef b

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (own L cc0_scratch0)).erase (own L cc0_scratch1)).erase (own L cc0_scratch2)).erase (own L cc0_scratch3))
              fun b => iprop(∃ f, ((d, b) : Loc nD τ sig) ↦{fullShare} f)) := by
  have m0 := SparseCore.Cfg.mem_ownRefs_of_owner (p := Proc.scVector (cV L) (jV L)) (b := own L cc0_scratch0) rfl
  have m1 := SparseCore.Cfg.mem_ownRefs_of_owner (p := Proc.scVector (cV L) (jV L)) (b := own L cc0_scratch1) rfl
  have m2 := SparseCore.Cfg.mem_ownRefs_of_owner (p := Proc.scVector (cV L) (jV L)) (b := own L cc0_scratch2) rfl
  have m3 := SparseCore.Cfg.mem_ownRefs_of_owner (p := Proc.scVector (cV L) (jV L)) (b := own L cc0_scratch3) rfl
  have n {s t : Ref sig .scVector} (hst : s ≠ t) : own L s ≠ own L t := fun e => hst (Proc.devRef_injective _ e)
  unfold SparseCore.Cfg.ownBufs
  refine (SparseCore.bigSep_erase' m0).trans ?_
  rw [SparseCore.bigSep_erase' (Finset.mem_erase.mpr ⟨n (by decide), m1⟩),
    SparseCore.bigSep_erase' (Finset.mem_erase.mpr ⟨n (by decide), Finset.mem_erase.mpr ⟨n (by decide), m2⟩⟩),
    SparseCore.bigSep_erase' (Finset.mem_erase.mpr ⟨n (by decide), Finset.mem_erase.mpr ⟨n (by decide), Finset.mem_erase.mpr ⟨n (by decide), m3⟩⟩⟩)]

/-! ### The values a tile reads and writes, by its number -/

omit [FloatOps F] in
theorem wid_lt : wid L < 32 := by
  have h0 : (L 0).val < 2 := (L 0).isLt
  have h1 : (L 1).val < 16 := (L 1).isLt
  unfold wid; omega

omit [FloatOps F] in
theorem chunkVal_pred (f : S32768x1024.Idx → Elt F .f32) (n : ℕ) : chunkVal d L aV f n = scRows (wid L) f n := by
  have hw := wid_lt L
  funext x
  show f _ = f _
  congr 1
  funext a
  apply Fin.ext
  have hx : (x 0).val < 16 := (x 0).isLt
  fin_cases a
  · show 896 * (L 1).val + 448 * (L 0).val + 16 * (n % 28) + 18432 + 1 * (x 0).val = (448 * wid L + 16 * (n % 28) + 18432 + (x 0).val) % 32768
    unfold wid at *
    omega
  · show 0 + 1 * (x 1).val = (x 1).val
    omega

omit [FloatOps F] in
theorem chunkVal_tgt (f : S32768x1024.Idx → Elt F .f32) (n : ℕ) : chunkVal d L bV f n = scRows (wid L) f n := chunkVal_pred d L f n

/-- A tile's slice of the partial sums. -/
abbrev outV (L : grid0.Coords) : Memref sig .scVector .hbm S16 .f32 := (oV).slice (outRect L) (fun _ => rfl)

omit [FloatOps F] in
theorem outV_set : (outV L).view.set = (outRect L).set := View.set_slice_whole _ _

/-- The slice filled with the tile's sums is the array of all sums, there. -/
theorem has_out (f g : S32768x1024.Idx → Elt F .f32) (h : S9x16.Idx → Elt F .f32) :
    has d L (outV L) (tileSum f g h (wid L)) ⊢ (outLoc d ↦[(outRect L).set]{fullShare} scOut f g h : sProp 𝕄) := by
  unfold has
  iintro ⟨%k, %hk, H⟩
  have e : ((outV L).view.loc (V d (cV L) (jV L)) ↦[(outV L).view.set]{fullShare} k : sProp 𝕄) = outLoc d ↦[(outRect L).set]{fullShare} scOut f g h := by
    rw [outV_set]
    refine pointsTo_congr (ℓ := outLoc d) fun y hy => ?_
    obtain ⟨x, rfl⟩ := (outRect L).toLoadRect.exists_idx_of_mem hy
    have hy' := (mem_outRect L _).mp hy
    unfold scOut
    rw [hy', ← hk]
    show k _ = k _
    congr 1
    funext a
    apply Fin.ext
    fin_cases a
    have hx : (x 0).val < 16 := (x 0).isLt
    have e0 : ((outRect L).idx x 0).val = 32 * (L 1).val + 16 * (L 0).val + (x 0).val := by
      show (k0_off9 L) 0 + 1 * (x 0).val = _
      rw [k0_off9_eq]
      simp only [Matrix.cons_val_zero]; omega
    show ((outRect L).idx x 0).val = (k0_off9 L) 0 + 1 * (((outRect L).idx x 0).val % 16)
    rw [e0, k0_off9_eq]
    simp only [Matrix.cons_val_zero]; omega
  iapply (Entails.of_eq e) $$ H

/-! ### The tile's obligation -/

abbrev creditN : ℕ := (slot0 s0V).view.dmaCredit
abbrev credit8 : ℕ := (s2V).view.dmaCredit
abbrev credit5 (L : grid0.Coords) : ℕ := (outV L).view.dmaCredit

variable (f g : Dev nD → S32768x1024.Idx → Elt F .f32) (h : Dev nD → S9x16.Idx → Elt F .f32)

theorem tileVec_eq : tileVec ((kV).view.read (Elt F) (h d)) (chunkVal d L aV (f d)) (chunkVal d L bV (g d)) = tileSum (f d) (g d) (h d) (wid L) := by
  rw [show chunkVal d L aV (f d) = scRows (wid L) (f d) from funext fun n => chunkVal_pred d L (f d) n,
    show chunkVal d L bV (g d) = scRows (wid L) (g d) from funext fun n => chunkVal_tgt d L (g d) n]
  rfl

/-- The task of the tile of coordinates `L`: from its shares of the arrays and its part of the partial sums to that part
    filled with its sums, its own buffers and semaphores given back. -/
theorem tile_body (hF : (K (F := F)).Facts) (O : CellTallies nD τ sig (HIx 1)) (W : Waits sig (HIx 1)) (hO : ∀ g, O g none = 0) :
    iprop(levAts (K (F := F)).L (K (F := F)).lev ∗ emp ∗ goes f g h d (L 0) (L 1)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L aV (Memref.isWhole_whole _) bV (Memref.isWhole_whole _) kV (Memref.isWhole_whole _) oV (Memref.isWhole_whole _)
            s0V (Memref.isWhole_whole _) s1V (Memref.isWhole_whole _) s2V (Memref.isWhole_whole _) s3V (Memref.isWhole_whole _)
            cc0_scratch4 cc0_scratch5 cc0_scoped0 cc0_scoped1)
          fun _ => iprop(comes f g h d (L 0) (L 1)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goes comes reads
  iintro ⟨#Hlv, -, ⟨⟨Ha, Hb, Hk⟩, %X, Ho⟩, ⟨⟨%f0, H0⟩, ⟨%f1, H1⟩, ⟨%f2, H2⟩, ⟨%f3, H3⟩, Hbufs⟩, ⟨Hs4, Hs5, Hr0, Hr1, Hsems⟩, HO⟩
  ihave #Hmw := (show levAts (K (F := F)).L (K (F := F)).lev ⊢ Transfers.MayWaits (V d (cV L) (jV L)) (none : HIx 1) O from
    (K (F := F)).mayWaits_none (thr := V d (cV L) (jV L)) hO) $$ Hlv
  ihave H0 := (slots_split d L s0V f0) $$ H0
  ihave H1 := (slots_split d L s1V f1) $$ H1
  icases H0 with ⟨H00, H01, H0r⟩
  icases H1 with ⟨H10, H11, H1r⟩
  ihave H2 := (Entails.of_eq (show ((V d (cV L) (jV L)).loc cc0_scratch2 ↦{fullShare} f2 : sProp 𝕄)
    = ((s2V).view.loc (V d (cV L) (jV L)) ↦[(s2V).view.set]{fullShare} f2) by rw [show (s2V).view.set = Finset.univ from View.set_whole _])) $$ H2
  ihave H3 := (Entails.of_eq (show ((V d (cV L) (jV L)).loc cc0_scratch3 ↦{fullShare} f3 : sProp 𝕄)
    = ((s3V).view.loc (V d (cV L) (jV L)) ↦[(s3V).view.set]{fullShare} f3) by rw [show (s3V).view.set = Finset.univ from View.set_whole _])) $$ H3
  ihave Hk := (Entails.of_eq (show (constLoc d ↦{shareOf (L 0) (L 1)} h d : sProp 𝕄)
    = ((kV).view.loc (V d (cV L) (jV L)) ↦[(kV).view.set]{shareOf (L 0) (L 1)} h d) by rw [show (kV).view.set = Finset.univ from View.set_whole _])) $$ Hk
  ihave Ho := (Entails.of_eq (show (outLoc d ↦[tileSet (L 0) (L 1)]{fullShare} X : sProp 𝕄)
    = ((outV L).view.loc (V d (cV L) (jV L)) ↦[(outV L).view.set]{fullShare} X) by rw [outV_set, ← coordsV_eta L]; rfl)) $$ Ho
  ihave H2 := (has_intro d L s2V f2) $$ H2
  ihave H3 := (has_intro d L s3V f3) $$ H3
  ihave Ho := (has_intro d L (outV L) X) $$ Ho
  have key := body_run d L aV (Memref.isWhole_whole _) bV (Memref.isWhole_whole _) kV (Memref.isWhole_whole _) oV (Memref.isWhole_whole _)
    s0V (Memref.isWhole_whole _) s1V (Memref.isWhole_whole _) s2V (Memref.isWhole_whole _) s3V (Memref.isWhole_whole _)
    cc0_scratch4 cc0_scratch5 cc0_scoped0 cc0_scoped1 (shareOf (L 0) (L 1)) (shareOf (L 0) (L 1)) (f d) (g d) (h d)
    creditN credit8 (credit5 L) O W (View.dmaCredit_pos _ (by decide)) rfl rfl rfl rfl (View.dmaCredit_pos _ (by decide)) rfl (View.dmaCredit_pos _ (by decide)) rfl
    ((slot0 s0V).view.read (Elt F) f0) ((slot0 s1V).view.read (Elt F) f1) ((slot1 s0V).view.read (Elt F) f0) ((slot1 s1V).view.read (Elt F) f1)
    ((s2V).view.read (Elt F) f2) ((s3V).view.read (Elt F) f3) ((outV L).view.read (Elt F) X)
  rw [tileVec_eq] at key
  unfold wpT share at key
  ihave Hw := key $$ [Ha Hb Hk Ho H00 H01 H10 H11 H2 H3 Hs4 Hs5 Hr0 Hr1 HO]
  · isplitr; · iexact Hmw
    isplitl [Ha]; · iexact Ha
    isplitl [Hb]; · iexact Hb
    isplitl [Hk]; · iexact Hk
    isplitl [Ho]; · iexact Ho
    isplitl [H00]; · iexact H00
    isplitl [H10]; · iexact H10
    isplitl [H01]; · iexact H01
    isplitl [H11]; · iexact H11
    isplitl [H2]; · iexact H2
    isplitl [H3]; · iexact H3
    isplitl [Hs4]; · iexact Hs4
    isplitl [Hs5]; · iexact Hs5
    isplitl [Hr0]; · iexact Hr0
    isplitl [Hr1]; · iexact Hr1
    unfold owing
    iexists W
    isplitr; · ipureintro; exact fun p hp => .inl hp
    iexact HO
  iapply (wp_wand_r frame (wpE (defs₀ (F := F)) 𝒱₀ (V d (cV L) (jV L)) none) Set.univ) $$ [Hw H0r H1r Hbufs Hsems]
  isplitl [Hw]; · iexact Hw
  iintro %_ ⟨Ha, Hb, Hk, Ho, ⟨%X0, H00⟩, ⟨%X1, H10⟩, ⟨%X2, H01⟩, ⟨%X3, H11⟩, ⟨%X4, H2⟩, ⟨%X5, H3⟩, Hs4, Hs5, Hr0, Hr1, HO⟩
  ihave H0 := (slots_join d L s0V f0 X0 X2) $$ [H00 H01 H0r]
  · isplitl [H00]; · iexact H00
    isplitl [H01] <;> iassumption
  ihave H1 := (slots_join d L s1V f1 X1 X3) $$ [H10 H11 H1r]
  · isplitl [H10]; · iexact H10
    isplitl [H11] <;> iassumption
  ihave H2 := (has_elim d L s2V _) $$ H2
  ihave H3 := (has_elim d L s3V _) $$ H3
  ihave Ho := (has_out d L (f d) (g d) (h d)) $$ Ho
  icases H2 with ⟨%k2, -, H2⟩
  icases H3 with ⟨%k3, -, H3⟩
  isplitl [Ha Hb Hk Ho]
  · isplitl [Ha Hb Hk]
    · isplitl [Ha]; · iexact Ha
      isplitl [Hb]; · iexact Hb
      iapply (Entails.of_eq (show ((kV).view.loc (V d (cV L) (jV L)) ↦[(kV).view.set]{shareOf (L 0) (L 1)} h d : sProp 𝕄)
        = (constLoc d ↦{shareOf (L 0) (L 1)} h d) by rw [show (kV).view.set = Finset.univ from View.set_whole _])) $$ Hk
    · iapply (Entails.of_eq (show (outLoc d ↦[(outRect L).set]{fullShare} scOut (f d) (g d) (h d) : sProp 𝕄)
        = (outLoc d ↦[tileSet (L 0) (L 1)]{fullShare} scOut (f d) (g d) (h d)) from
          congrArg (fun L' => (outLoc d ↦[(outRect L').set]{fullShare} scOut (f d) (g d) (h d) : sProp 𝕄)) (coordsV_eta L).symm)) $$ Ho
  isplitl [H0 H1 H2 H3 Hbufs]
  · isplitl [H0]; · iexact H0
    isplitl [H1]; · iexact H1
    isplitl [H2]
    · iexists k2
      iapply (Entails.of_eq (show ((s2V).view.loc (V d (cV L) (jV L)) ↦[(s2V).view.set]{fullShare} k2 : sProp 𝕄)
        = ((V d (cV L) (jV L)).loc cc0_scratch2 ↦{fullShare} k2) by rw [show (s2V).view.set = Finset.univ from View.set_whole _])) $$ H2
    isplitl [H3]
    · iexists k3
      iapply (Entails.of_eq (show ((s3V).view.loc (V d (cV L) (jV L)) ↦[(s3V).view.set]{fullShare} k3 : sProp 𝕄)
        = ((V d (cV L) (jV L)).loc cc0_scratch3 ↦{fullShare} k3) by rw [show (s3V).view.set = Finset.univ from View.set_whole _])) $$ H3
    iexact Hbufs
  isplitl [Hs4 Hs5 Hr0 Hr1 Hsems]
  · isplitl [Hs4]; · iexact Hs4
    isplitl [Hs5]; · iexact Hs5
    isplitl [Hr0]; · iexact Hr0
    isplitl [Hr1]; · iexact Hr1
    iexact Hsems
  unfold owing
  iexact HO

theorem defs₀_vector (c : Fin τ.nSC) (s : Fin τ.nSub) :
    defs₀ (F := F) (.scVector c s) 0 ()
      = SparseCore.onTile hcore0 hsub0 (fun c s => cc0__sc_body (coordsV c s) aV (Memref.isWhole_whole _) bV (Memref.isWhole_whole _)
          kV (Memref.isWhole_whole _) oV (Memref.isWhole_whole _)
          s0V (Memref.isWhole_whole _) s1V (Memref.isWhole_whole _) s2V (Memref.isWhole_whole _) s3V (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P f g h) v₀ 0 := by
  intro d c i O W hO _ _
  simp only [show (P f g h).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) f g h hF O W hO).trans (wp_mono frame _ _ fun _ => obl_post)

end Tile

/-! ## The call's split -/

section Split

variable (f g : Dev nD → S32768x1024.Idx → Elt F .f32) (h : Dev nD → S9x16.Idx → Elt F .f32)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P f g h) 0 := by
  intro d c
  show (bigSep Finset.univ fun s : Fin 16 => goes f g h d (Fin.cast nCore_zero c) s) ⊢ |={Set.univ}=> iprop(
      (bigSep Finset.univ fun i : Fin ((K (F := F)).nSub 0) => goes f g h d (Fin.cast nCore_zero c) (Fin.cast nSub_zero i))
      ∗ ((bigSep Finset.univ fun i : Fin ((K (F := F)).nSub 0) => comes f g h d (Fin.cast nCore_zero c) (Fin.cast nSub_zero i))
          -∗ bigSep Finset.univ fun s : Fin 16 => comes f g h d (Fin.cast nCore_zero c) s))
  rw [bigSep_tasks (F := F) (fun i => goes f g h d (Fin.cast nCore_zero c) i), bigSep_tasks (F := F) (fun i => comes f g h d (Fin.cast nCore_zero c) i)]
  iintro H; imodintro
  isplitl [H]; · iexact H
  iintro H; iexact H

theorem goes_intro (d : Dev nD) (c : Fin 2) (s : Fin 16) (X : Buf (Elt F) (outLoc d)) :
    iprop((predLoc d ↦{shareOf c s} f d) ∗ (tgtLoc d ↦{shareOf c s} g d) ∗ (constLoc d ↦{shareOf c s} h d) ∗ (outLoc d ↦[tileSet c s]{fullShare} X))
      ⊢ (goes f g h d c s : sProp 𝕄) := by
  unfold goes reads
  iintro ⟨Ha, Hb, Hc, Ho⟩
  isplitr [Ho]
  · isplitl [Ha]; · iexact Ha
    isplitl [Hb] <;> iassumption
  · iexists X; iexact Ho

theorem comes_elim (d : Dev nD) (c : Fin 2) (s : Fin 16) :
    (comes f g h d c s : sProp 𝕄) ⊢ iprop((predLoc d ↦{shareOf c s} f d) ∗ (tgtLoc d ↦{shareOf c s} g d) ∗ (constLoc d ↦{shareOf c s} h d)
      ∗ (outLoc d ↦[tileSet c s]{fullShare} scOut (f d) (g d) (h d))) := by
  unfold comes reads
  iintro ⟨⟨Ha, Hb, Hc⟩, Ho⟩
  isplitl [Ha]; · iexact Ha
  isplitl [Hb]; · iexact Hb
  isplitl [Hc] <;> iassumption

/-- What @main gives the call: the three arrays and the array of partial sums. -/
theorem st_intro (d : Dev nD) (X : Buf (Elt F) (outLoc d)) :
    iprop((predLoc d ↦{fullShare} f d) ∗ (tgtLoc d ↦{fullShare} g d) ∗ (constLoc d ↦{fullShare} h d) ∗ (outLoc d ↦{fullShare} X))
      ⊢ (bigSep Finset.univ fun c : Fin ((K (F := F)).nCore 0) => (P f g h).st 0 d c : sProp 𝕄) := by
  show _ ⊢ bigSep (Finset.univ : Finset (Fin 2)) fun c => bigSep Finset.univ fun s : Fin 16 => goes f g h d c s
  rw [whole_shares (ℓ := predLoc d) (f d), whole_shares (ℓ := tgtLoc d) (g d), whole_shares (ℓ := constLoc d) (h d), whole_parts d X]
  simp only [← bigSep_sep']
  exact bigSep_mono fun c _ => bigSep_mono fun s _ => goes_intro f g h d c s X

/-- What it gets back: the partial sums computed. -/
theorem dn_elim (d : Dev nD) :
    (bigSep Finset.univ fun c : Fin ((K (F := F)).nCore 0) => (P f g h).dn 0 d c : sProp 𝕄)
      ⊢ iprop((predLoc d ↦{fullShare} f d) ∗ (tgtLoc d ↦{fullShare} g d) ∗ (constLoc d ↦{fullShare} h d)
          ∗ (outLoc d ↦{fullShare} scOut (f d) (g d) (h d))) := by
  show (bigSep (Finset.univ : Finset (Fin 2)) fun c => bigSep Finset.univ fun s : Fin 16 => comes f g h d c s) ⊢ _
  rw [whole_shares (ℓ := predLoc d) (f d), whole_shares (ℓ := tgtLoc d) (g d), whole_shares (ℓ := constLoc d) (h d), whole_parts d (scOut (f d) (g d) (h d))]
  simp only [← bigSep_sep']
  exact bigSep_mono fun c _ => bigSep_mono fun s _ => comes_elim f g h d c s

end Split

end Cert.Proof.Wmse

end
-- ==== Proof.Main.lean ====
/-
  The program's run: @main on the TensorCore (the host's set-up, the SparseCores' call, the TensorCore's region, the
  host's end), from the launch to the result and the arguments, for any float values.
-/
module

public import proofs.«01_k».proof.Proof.Tc
public import proofs.«01_k».proof.Proof.Sc
public import Idealize.ShloMosaic.Lib.StableHlo.Run

@[expose] public section

set_option maxRecDepth 16384

noncomputable section

namespace Cert.Proof.Wmse

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.ShloMosaic.StableHlo (held after seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host's operations -/

/-- Before the calls: the arrays as rows, and the table of thresholds and weights spread over sixteen lanes. -/
abbrev opsPre : List (HloOp τ sig (Elt F)) :=
  [ StableHlo.reshape main_arg0 main_v0 (rfl : (.f32 : EltTy) = .f32) shapeCasts_S4x8192x1024_S32768x1024,
    StableHlo.reshape main_arg1 main_v1 (rfl : (.f32 : EltTy) = .f32) shapeCasts_S4x8192x1024_S32768x1024,
    StableHlo.binary main_arg3 main_arg2 main_v2 ((fun a b => concatenate S9 0 [⟨S4, a⟩, ⟨S5, b⟩] concatenates_S4_S5_S9_d0) : (⟨S4, .f32⟩ : BufTy).Contents (Elt F) → (⟨S5, .f32⟩ : BufTy).Contents (Elt F) → (⟨S9, .f32⟩ : BufTy).Contents (Elt F)),
    StableHlo.reshape main_v2 main_v3 (rfl : (.f32 : EltTy) = .f32) shapeCasts_S9_S9x1,
    StableHlo.nullary main_cst (constant S_ .f32 0x3F800000#32),
    StableHlo.unary main_cst main_v4 (broadcastInDim S1x16 ![] bcast_S_S1x16 : (⟨S_, .f32⟩ : BufTy).Contents (Elt F) → (⟨S1x16, .f32⟩ : BufTy).Contents (Elt F)),
    StableHlo.unary main_v3 main_v5 (broadcastInDim S9x16 ![0, 1] bcast_S9x1_S9x16_0_1 : (⟨S9x1, .f32⟩ : BufTy).Contents (Elt F) → (⟨S9x16, .f32⟩ : BufTy).Contents (Elt F)),
    StableHlo.unary main_v4 main_v6 (broadcastInDim S9x16 ![0, 1] bcast_S1x16_S9x16_0_1 : (⟨S1x16, .f32⟩ : BufTy).Contents (Elt F) → (⟨S9x16, .f32⟩ : BufTy).Contents (Elt F)),
    StableHlo.binary main_v5 main_v6 main_v7 (mulf : (⟨S9x16, .f32⟩ : BufTy).Contents (Elt F) → (⟨S9x16, .f32⟩ : BufTy).Contents (Elt F) → (⟨S9x16, .f32⟩ : BufTy).Contents (Elt F)) ]

/-- After the calls: the two totals added, divided by the number of elements. -/
abbrev opsPost : List (HloOp τ sig (Elt F)) :=
  [ StableHlo.reshape main_v9 main_v10 (rfl : (.f32 : EltTy) = .f32) shapeCasts_S1_S_,
    StableHlo.nullary main_cst_0 (constant S_ .f32 0x00000000#32),
    StableHlo.binary main_v8 main_cst_0 main_v11 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.binary main_v10 main_v11 main_v12 (addf : (⟨S_, .f32⟩ : BufTy).Contents (Elt F) → (⟨S_, .f32⟩ : BufTy).Contents (Elt F) → (⟨S_, .f32⟩ : BufTy).Contents (Elt F)),
    StableHlo.nullary main_cst_1 (constant S_ .f32 0x4C000000#32),
    StableHlo.binary main_v12 main_cst_1 main_v13 (Host.divf : (⟨S_, .f32⟩ : BufTy).Contents (Elt F) → (⟨S_, .f32⟩ : BufTy).Contents (Elt F) → (⟨S_, .f32⟩ : BufTy).Contents (Elt F)),
    StableHlo.reshape main_v13 main_v14 (rfl : (.f32 : EltTy) = .f32) shapeCasts_S_S_ ]

theorem main_eq (d : Dev nD) : main (F := F) d
    = (seq opsPre >>= fun _ => (K (F := F)).run d 0 >>= fun _ =>
        SparseCore.liftProg (.op (.customCall (Pipeline.entry 0) ()) .ret) >>= fun _ => seq opsPost >>= fun _ => .ret ⟨⟩) := rfl

/-- The TensorCore's arrays. -/
abbrev SU : Finset (DevRef τ sig) := (StableHlo.tcRefs τ sig).filter fun b => ¬ b.isScoped

theorem pre_sub : ∀ op ∈ (opsPre : List (HloOp τ sig (Elt F))), op.bufs ⊆ SU := by
  simp only [List.forall_mem_cons]
  exact ⟨(show ({(Proc.devRef .tc main_arg0),
    (Proc.devRef .tc main_v0)} : Finset (DevRef τ sig)) ⊆ SU by decide),
    (show ({(Proc.devRef .tc main_arg1),
    (Proc.devRef .tc main_v1)} : Finset (DevRef τ sig)) ⊆ SU by decide),
    (show ({(Proc.devRef .tc main_arg3),
    (Proc.devRef .tc main_arg2),
    (Proc.devRef .tc main_v2)} : Finset (DevRef τ sig)) ⊆ SU by decide),
    (show ({(Proc.devRef .tc main_v2),
    (Proc.devRef .tc main_v3)} : Finset (DevRef τ sig)) ⊆ SU by decide),
    (show ({(Proc.devRef .tc main_cst)} : Finset (DevRef τ sig)) ⊆ SU by decide),
    (show ({(Proc.devRef .tc main_cst),
    (Proc.devRef .tc main_v4)} : Finset (DevRef τ sig)) ⊆ SU by decide),
    (show ({(Proc.devRef .tc main_v3),
    (Proc.devRef .tc main_v5)} : Finset (DevRef τ sig)) ⊆ SU by decide),
    (show ({(Proc.devRef .tc main_v4),
    (Proc.devRef .tc main_v6)} : Finset (DevRef τ sig)) ⊆ SU by decide),
    (show ({(Proc.devRef .tc main_v5),
    (Proc.devRef .tc main_v6),
    (Proc.devRef .tc main_v7)} : Finset (DevRef τ sig)) ⊆ SU by decide),
    fun _ h => nomatch h⟩
theorem post_sub : ∀ op ∈ (opsPost : List (HloOp τ sig (Elt F))), op.bufs ⊆ SU := by
  simp only [List.forall_mem_cons]
  exact ⟨(show ({(Proc.devRef .tc main_v9),
    (Proc.devRef .tc main_v10)} : Finset (DevRef τ sig)) ⊆ SU by decide),
    (show ({(Proc.devRef .tc main_cst_0)} : Finset (DevRef τ sig)) ⊆ SU by decide),
    (show ({(Proc.devRef .tc main_v8),
    (Proc.devRef .tc main_cst_0),
    (Proc.devRef .tc main_v11)} : Finset (DevRef τ sig)) ⊆ SU by decide),
    (show ({(Proc.devRef .tc main_v10),
    (Proc.devRef .tc main_v11),
    (Proc.devRef .tc main_v12)} : Finset (DevRef τ sig)) ⊆ SU by decide),
    (show ({(Proc.devRef .tc main_cst_1)} : Finset (DevRef τ sig)) ⊆ SU by decide),
    (show ({(Proc.devRef .tc main_v12),
    (Proc.devRef .tc main_cst_1),
    (Proc.devRef .tc main_v13)} : Finset (DevRef τ sig)) ⊆ SU by decide),
    (show ({(Proc.devRef .tc main_v13),
    (Proc.devRef .tc main_v14)} : Finset (DevRef τ sig)) ⊆ SU by decide),
    fun _ h => nomatch h⟩
theorem pre_fresh : ∀ op ∈ (opsPre : List (HloOp τ sig (Elt F))), op.fresh = ∅ := by
  simp only [List.forall_mem_cons]; exact ⟨rfl, rfl, rfl, rfl, rfl, rfl, rfl, rfl, rfl, fun _ h => nomatch h⟩
theorem post_fresh : ∀ op ∈ (opsPost : List (HloOp τ sig (Elt F))), op.fresh = ∅ := by
  simp only [List.forall_mem_cons]; exact ⟨rfl, rfl, rfl, rfl, rfl, rfl, rfl, fun _ h => nomatch h⟩

omit [FloatOps F] in
theorem unscoped_held (d : Dev nD) (W : Valuation τ sig (Elt F)) :
    (unscopedBufs d (fun b => W (Proc.devRef .tc b)) : sProp 𝕄) = held (T d) SU W := by
  unfold unscopedBufs StableHlo.held SU StableHlo.tcRefs
  rw [Finset.filter_map, bigSep_map]; rfl

/-! ## The contents along the run -/

variable (m : (ℓ : Loc nD τ sig) → Buf (Elt F) ℓ) (ρ : Dev nD → PrngReg)

abbrev r0 : DevRef τ sig := Proc.devRef .tc (main_v0 : Ref sig .tc)
abbrev r1 : DevRef τ sig := Proc.devRef .tc (main_v1 : Ref sig .tc)
abbrev r7 : DevRef τ sig := Proc.devRef .tc (main_v7 : Ref sig .tc)
abbrev r8 : DevRef τ sig := Proc.devRef .tc (main_v8 : Ref sig .tc)
abbrev r9 : DevRef τ sig := Proc.devRef .tc (main_v9 : Ref sig .tc)
abbrev r14 : DevRef τ sig := Proc.devRef .tc (main_v14 : Ref sig .tc)
abbrev ra0 : DevRef τ sig := Proc.devRef .tc (main_arg0 : Ref sig .tc)
abbrev ra1 : DevRef τ sig := Proc.devRef .tc (main_arg1 : Ref sig .tc)
abbrev ra2 : DevRef τ sig := Proc.devRef .tc (main_arg2 : Ref sig .tc)
abbrev ra3 : DevRef τ sig := Proc.devRef .tc (main_arg3 : Ref sig .tc)

def W0 (d : Dev nD) : Valuation τ sig (Elt F) := fun b => m (d, b)
/-- After the set-up. -/
def W1 (d : Dev nD) : Valuation τ sig (Elt F) := after opsPre (W0 m d)
abbrev predOf (d : Dev nD) : S32768x1024.Idx → Elt F .f32 := W1 m d r0
abbrev tgtOf (d : Dev nD) : S32768x1024.Idx → Elt F .f32 := W1 m d r1
abbrev tabOf (d : Dev nD) : S9x16.Idx → Elt F .f32 := W1 m d r7
/-- After the SparseCores' call: their sums. -/
def W2 (d : Dev nD) : Valuation τ sig (Elt F) := Function.update (W1 m d) r8 (scOut (predOf m d) (tgtOf m d) (tabOf m d))
abbrev V2 (c : Dev nD) (b : Ref sig .tc) : Buf (Elt F) ((c : Thread nD τ).loc b) := W2 m c (Proc.devRef .tc b)
/-- After the TensorCore's region: its total. -/
def W3 (d : Dev nD) : Valuation τ sig (Elt F) := Function.update (W2 m d) r9 (tcOut (V2 m) d)
abbrev V3 (c : Dev nD) (b : Ref sig .tc) : Buf (Elt F) ((c : Thread nD τ).loc b) := W3 m c (Proc.devRef .tc b)
/-- At the end. -/
def W4 (d : Dev nD) : Valuation τ sig (Elt F) := after opsPost (W3 m d)

theorem W2_of_ne (d : Dev nD) {b : DevRef τ sig} (h : b ≠ r8) : W2 m d b = W1 m d b := Function.update_of_ne h _ _
theorem W2_r8 (d : Dev nD) : W2 m d r8 = scOut (predOf m d) (tgtOf m d) (tabOf m d) := Function.update_self _ _ _
theorem W3_of_ne (d : Dev nD) {b : DevRef τ sig} (h : b ≠ r9) : W3 m d b = W2 m d b := Function.update_of_ne h _ _
theorem W3_r9 (d : Dev nD) : W3 m d r9 = tcOut (V2 m) d := Function.update_self _ _ _

/-! ## The region's ghost state beside the call's -/

abbrev EP : Emb UP 𝕄 := (Emb.inl : Emb UP (UP × Counters)).trans embR
instance EP_landsIn : (EP (F := F)).LandsIn (upEmb : UEmb _ 𝕄) := by unfold EP; infer_instance

abbrev pinned (p : Fin 1) := Pipeline.pin (pcfgs (F := F)) adm p
theorem phinj : Function.Injective (Pipeline.cellOf (nD := nD) (τ := τ) (Pipeline.pin (pcfgs (F := F)) adm)) := launch1.cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What the region takes of the launch's ghost state. -/
def G (d : Dev nD) : sProp 𝕄 := iprop(Pipeline.cellsGhost (Pipeline.pin (pcfgs (F := F)) adm) EP 0 d ∗ Pipeline.toksInit (Pipeline.pin (pcfgs (F := F)) adm) EP 0 d)

theorem hu₀ (f g : Dev nD → S32768x1024.Idx → Elt F .f32) (h : Dev nD → S9x16.Idx → Elt F .f32) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P f g h).x q thr) := by
  unfold u₀
  iintro Hu
  ihave H := (ownU_pair _ _) $$ Hu
  icases H with ⟨HH, HR⟩
  ihave HR' := (own_pair_emb embR _ _) $$ HR
  icases HR' with ⟨HP, -⟩
  imod (Pipeline.fund_ghost (Pipeline.pin (pcfgs (F := F)) adm) EP phinj) $$ HP with ⟨Hg, Ht⟩
  imodintro
  isplitl [HH]; · iexact HH
  isplitl [Hg Ht]
  · unfold G
    rw [bigSep_sep']
    simp only [bigSep_univ_of_subsingleton (0 : Fin 1)]
    isplitl [Hg] <;> iassumption
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

/-! ## @main on the TensorCore -/

/-- The four arrays of the SparseCores' call. -/
abbrev S4a : Finset (DevRef τ sig) := {r0, r1, r7, r8}

omit [FloatOps F] in
theorem held_S4a (d : Dev nD) (W : Valuation τ sig (Elt F)) :
    (held (T d) S4a W : sProp 𝕄) = iprop((predLoc d ↦{fullShare} W r0) ∗ (tgtLoc d ↦{fullShare} W r1) ∗ (constLoc d ↦{fullShare} W r7) ∗ outLoc d ↦{fullShare} W r8) := by
  unfold held S4a
  rw [SparseCore.bigSep_insert' (by decide), SparseCore.bigSep_insert' (by decide), SparseCore.bigSep_insert' (by decide), bigSep_singleton]

theorem S4a_sub : S4a ⊆ SU := by decide

/-- What the claims read at the end: the arguments and the result. -/
abbrev SF : Finset (DevRef τ sig) := {ra0, ra1, ra2, ra3, r14}
theorem SF_sub : SF ⊆ SU := by decide

abbrev FIN (d : Dev nD) : sProp 𝕄 := held (T d) SF (W4 m d)

/-- The call's four arrays returned and the rest, as the contents after the call. -/
theorem held_W2 (d : Dev nD) :
    iprop((predLoc d ↦{fullShare} predOf m d) ∗ (tgtLoc d ↦{fullShare} tgtOf m d) ∗ (constLoc d ↦{fullShare} tabOf m d)
        ∗ (outLoc d ↦{fullShare} scOut (predOf m d) (tgtOf m d) (tabOf m d)) ∗ held (T d) (SU \ S4a) (W1 m d))
      ⊢ (unscopedBufs d (V2 m d) : sProp 𝕄) := by
  rw [show (unscopedBufs d (V2 m d) : sProp 𝕄) = held (T d) SU (W2 m d) from unscoped_held d (W2 m d),
    StableHlo.held_sub_split (T d) S4a_sub (W2 m d), held_S4a,
    W2_of_ne m d (show r0 ≠ r8 by decide), W2_of_ne m d (show r1 ≠ r8 by decide), W2_of_ne m d (show r7 ≠ r8 by decide), W2_r8,
    StableHlo.held_congr (T d) (S := SU \ S4a) (V := W2 m d) (V' := W1 m d) fun b hb =>
      W2_of_ne m d fun h => (Finset.mem_sdiff.mp hb).2 (h ▸ (by decide))]
  iintro ⟨Hp, Ht, Hc, Ho, Hr⟩
  isplitr [Hr]
  · isplitl [Hp]; · iexact Hp
    isplitl [Ht]; · iexact Ht
    isplitl [Hc]; · iexact Hc
    iexact Ho
  iexact Hr

set_option backward.isDefEq.respectTransparency.types false in
/-- The TensorCore's region among the mesh's programs. -/
theorem region_run [∀ e, Nonempty (Elt F e)] (b : ℕ) (d : Dev nD) (Q : PUnit → sProp 𝕄) :
    iprop((iprop(boundary (T d) ∗ unscopedBufs d (V3 m d) ∗ owesBelow (F := F) b d) -∗ Q ⟨⟩)
        ∗ boundary (T d) ∗ (unscopedBufs d (V2 m d) ∗ owesBelow (F := F) b d) ∗ levAts (K (F := F)).L (K (F := F)).lev ∗ G (F := F) d)
      ⊢ wp frame (wpE ((K (F := F)).defs (D (F := F))) 𝒱 (T d) none) Set.univ
          (SparseCore.liftProg (.op (.customCall (Pipeline.entry 0) ()) .ret)) Q := by
  have key := Pipeline.RegionSeg.wp (pcfgs (F := F)) adm (dats (V2 m) b) none phinj EP defs₀ 𝒱₀ (K (F := F)).L (K (F := F)).lev
    (region (V2 m) (V3 m) b (fun c => W3_r9 m c) (fun c r hr => W3_of_ne m c fun h => hr (Proc.devRef_injective _ h)))
    d none (fun u hu => nomatch hu) .ret Q
  have key' : iprop((iprop(boundary (T d) ∗ unscopedBufs d (V3 m d) ∗ owesBelow (F := F) b d)
            -∗ wp frame (wpE (D (F := F)) 𝒱 (T d) none) Set.univ (.ret ⟨⟩) Q)
        ∗ boundary (T d) ∗ (unscopedBufs d (V2 m d) ∗ owesBelow (F := F) b d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (SparseCore.liftProg (.op (.customCall (Pipeline.entry 0) ()) .ret)) Q := BI.Entails.trans key ((K (F := F)).wp_liftProg (D (F := F)) 𝒱 (T d) Set.univ none _ Q)
  unfold G
  iintro ⟨Hk, Hb, Hpre, Hl, Hg, Ht⟩
  iapply key' $$ [Hk Hb Hpre Hl Hg Ht]
  isplitl [Hk]
  · iintro ⟨Hb, Hpost⟩
    rw [wp_ret]; imodintro
    iapply Hk
    isplitl [Hb] <;> iassumption
  isplitl [Hb]; · iexact Hb
  isplitl [Hpre]; · iexact Hpre
  isplitl [Hl]; · iexact Hl
  isplitl [Hg] <;> iassumption

/-- After the call the TensorCore owes nothing. -/
theorem tcSt_one (d : Dev nD) : ∃ R : sProp 𝕄, (K (F := F)).tcSt EH d 1 = iprop(owesBelow (F := F) (8 * 1) d ∗ R) := by
  unfold SparseCore.Cfg.tcSt
  rw [(K (F := F)).Otc_end d (n := 1) (le_refl 1)]
  exact ⟨_, rfl⟩

set_option backward.isDefEq.respectTransparency.types false in
theorem hmain [∀ e, Nonempty (Elt F e)] (κ : GSem nD τ sig → ℕ) (d : Dev nD) :
    iprop((K (F := F)).ctx EH (P (predOf m) (tgtOf m) (tabOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) SU (W0 m d) from unscoped_held d (W0 m d), main_eq]
  iintro ⟨#Hctx, Hst, ⟨Hb, Hheld, Hts, -⟩, HG⟩
  iapply (StableHlo.wp_seq 𝒱 none Set.univ d SU _ opsPre pre_sub pre_fresh (W0 m d)) $$ [Hb Hheld]
  · isplitl [Hb] <;> iassumption
  iintro ⟨Hb, Hheld⟩
  rw [wp_bind]
  -- the call
  ihave Hh := (Entails.of_eq (StableHlo.held_sub_split (T d) S4a_sub (after opsPre (W0 m d)))) $$ Hheld
  icases Hh with ⟨H4, Hrest⟩
  ihave H4' := (Entails.of_eq (held_S4a (F := F) d _)) $$ H4
  icases H4' with ⟨Hp, Ht, Hc, Ho⟩
  iapply ((K (F := F)).wp_run (D (F := F)) 𝒱 (EH := EH) (P := P (predOf m) (tgtOf m) (tabOf m)) κ d 0) $$ [Hst Hp Ht Hc Ho Hb Hrest Hts HG]
  isplitr; · iexact Hctx
  isplitl [Hst]; · iexact Hst
  isplitl [Hp Ht Hc Ho]
  · iapply (st_intro (predOf m) (tgtOf m) (tabOf m) d (W1 m d r8))
    isplitl [Hp]; · iexact Hp
    isplitl [Ht]; · iexact Ht
    isplitl [Hc]; · iexact Hc
    iexact Ho
  iintro ⟨Hst, Hdn⟩
  ihave Hdn' := (dn_elim (predOf m) (tgtOf m) (tabOf m) d) $$ Hdn
  icases Hdn' with ⟨Hp, Ht, Hc, Ho⟩
  ihave Hu := (held_W2 m d) $$ [Hp Ht Hc Ho Hrest]
  · isplitl [Hp]; · iexact Hp
    isplitl [Ht]; · iexact Ht
    isplitl [Hc]; · iexact Hc
    isplitl [Ho]; · iexact Ho
    iexact Hrest
  -- the region
  rw [wp_bind]
  obtain ⟨R, hR⟩ := tcSt_one (F := F) d
  ihave Hst' := (Entails.of_eq (show (K (F := F)).tcSt EH d ((0 : Fin 1).val + 1) = _ from hR)) $$ Hst
  icases Hst' with ⟨HO, HR⟩
  ihave Hlev := (SparseCore.Cfg.ctx_levAts κ) $$ Hctx
  iapply (region_run m (8 * 1) d _) $$ [HO HR Hu Hb Hts HG Hlev]
  isplitr [HO Hu Hb HG Hlev]
  swap
  · isplitl [Hb]; · iexact Hb
    isplitl [Hu HO]
    · isplitl [Hu]; · iexact Hu
      iexact HO
    isplitl [Hlev]; · iexact Hlev
    iexact HG
  iintro ⟨Hb, Hu, HO⟩
  -- the end
  ihave Hheld := (Entails.of_eq (show (unscopedBufs d (V3 m d) : sProp 𝕄) = held (T d) SU (W3 m d) from unscoped_held d (W3 m d))) $$ Hu
  iapply (StableHlo.wp_seq 𝒱 none Set.univ d SU _ opsPost post_sub post_fresh (W3 m d)) $$ [Hb Hheld]
  · isplitl [Hb] <;> iassumption
  iintro ⟨Hb, Hheld⟩
  ihave Hh := (Entails.of_eq (StableHlo.held_sub_split (T d) SF_sub (after opsPost (W3 m d)))) $$ Hheld
  icases Hh with ⟨Hf, -⟩
  rw [wp_ret, hR]; imodintro
  isplitl [HO HR]
  · isplitl [HO] <;> iassumption
  isplitl [Hf]; · iexact Hf
  isplitl [Hb] <;> iassumption

/-! ## What the end leaves -/

/-- Every array that a claim reads holds its contents at the end. -/
def fq (d : Dev nD) (s' : Phys nD τ sig (Elt F)) : Prop := ∀ b ∈ SF, s'.mem.mem (d, b) = W4 m d b

theorem read_held (d : Dev nD) (s' : Phys nD τ sig (Elt F)) (W : Valuation τ sig (Elt F)) {S : Finset (DevRef τ sig)} {b : DevRef τ sig} (hb : b ∈ S) :
    iprop(held (T d) S W ∗ SI s') ⊢ (⌜s'.mem.mem (d, b) = W b⌝ : sProp 𝕄) := by
  unfold held
  iintro ⟨Hs, HSI⟩
  ihave Hx := (SparseCore.ent (bigSep_elim (Φ := fun b : DevRef τ sig => (((T d : Thread nD τ).1, b) ↦{fullShare} W b : sProp 𝕄)) hb)) $$ Hs
  ihave H := (SI_pointsTo_agree (st := s') (ℓ := ((d, b) : Loc nD τ sig)) (I := Finset.univ) (q := fullShare) (f := W b)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  intro a ha
  exact fun b hb => read_held d s' (W4 m d) hb a ha

/-! ## The run -/

def QC : PUnit × MemSt nD τ sig (Elt F) → Prop := fun r => (∀ c : Dev nD, ∀ b ∈ SF, r.2.mem (c, b) = W4 m c b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (predOf m) (tgtOf m) (tabOf m)) (A := ∅) facts v₀
    (fun q hq => match q with | 0 => nomatch hq)
    (fun q _ => match q with | 0 => tileObl (predOf m) (tgtOf m) (tabOf m) facts)
    (fun q _ => match q with | 0 => SparseCore.Cfg.VecSplit.of_plain (vecSplit (predOf m) (tgtOf m) (tabOf m)))
    m ρ main (fun d => G d) (FIN m) (u₀ (F := F)) (sep_elim_left.trans (hu₀ (predOf m) (tgtOf m) (tabOf m))) (hmain m ρ) (fq m) (hfin m) (QC m)
    (fun _ h hz => ⟨h, hz⟩)

end Cert.Proof.Wmse

end
-- ==== Proof.Frames.lean ====
/-
  What the run leaves, read back: the arguments as they were, the result as an expression in them; and the three
  programs' frames.
-/
module

public import proofs.«01_k».proof.Proof.Main
public import proofs.«01_k».proof.Proof.Gen.ReferenceIdeal.Run
public import proofs.«01_k».proof.Defs
public import proofs.«01_k».proof.Proof.Gen.Kernel

@[expose] public section

set_option maxRecDepth 16384

noncomputable section

namespace Cert.Proof.Wmse

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The set-up's arrays -/

theorem W1_r0 (d : Dev nD) : W1 m d r0 = shapeCast S32768x1024 (m ((d.tc : Thread nD τ).loc main_arg0)) shapeCasts_S4x8192x1024_S32768x1024 := by
  unfold W1; after_results_simp <;> rfl
theorem W1_r1 (d : Dev nD) : W1 m d r1 = shapeCast S32768x1024 (m ((d.tc : Thread nD τ).loc main_arg1)) shapeCasts_S4x8192x1024_S32768x1024 := by
  unfold W1; after_results_simp <;> rfl
theorem W1_r7 (d : Dev nD) : W1 m d r7
    = mulf (broadcastInDim S9x16 ![0, 1] bcast_S9x1_S9x16_0_1 (shapeCast S9x1 (concatenate S9 0 [⟨S4, (m ((d.tc : Thread nD τ).loc main_arg3) : FVec F S4 .f32)⟩, ⟨S5, (m ((d.tc : Thread nD τ).loc main_arg2) : FVec F S5 .f32)⟩] concatenates_S4_S5_S9_d0) shapeCasts_S9_S9x1))
        (broadcastInDim S9x16 ![0, 1] bcast_S1x16_S9x16_0_1 (broadcastInDim S1x16 ![] bcast_S_S1x16 (constant S_ .f32 0x3F800000#32))) := by
  unfold W1; after_results_simp <;> rfl

/-! ## The end -/

theorem W1_arg0 (d : Dev nD) : W1 m d ra0 = m ((d.tc : Thread nD τ).loc main_arg0) := by unfold W1; after_results_simp <;> rfl
theorem W1_arg1 (d : Dev nD) : W1 m d ra1 = m ((d.tc : Thread nD τ).loc main_arg1) := by unfold W1; after_results_simp <;> rfl
theorem W1_arg2 (d : Dev nD) : W1 m d ra2 = m ((d.tc : Thread nD τ).loc main_arg2) := by unfold W1; after_results_simp <;> rfl
theorem W1_arg3 (d : Dev nD) : W1 m d ra3 = m ((d.tc : Thread nD τ).loc main_arg3) := by unfold W1; after_results_simp <;> rfl

theorem W4_arg0 (d : Dev nD) : W4 m d ra0 = m ((d.tc : Thread nD τ).loc main_arg0) := by
  rw [← W1_arg0 m d, ← W2_of_ne m d (show ra0 ≠ r8 by decide), ← W3_of_ne m d (show ra0 ≠ r9 by decide)]
  unfold W4; after_results_simp <;> rfl
theorem W4_arg1 (d : Dev nD) : W4 m d ra1 = m ((d.tc : Thread nD τ).loc main_arg1) := by
  rw [← W1_arg1 m d, ← W2_of_ne m d (show ra1 ≠ r8 by decide), ← W3_of_ne m d (show ra1 ≠ r9 by decide)]
  unfold W4; after_results_simp <;> rfl
theorem W4_arg2 (d : Dev nD) : W4 m d ra2 = m ((d.tc : Thread nD τ).loc main_arg2) := by
  rw [← W1_arg2 m d, ← W2_of_ne m d (show ra2 ≠ r8 by decide), ← W3_of_ne m d (show ra2 ≠ r9 by decide)]
  unfold W4; after_results_simp <;> rfl
theorem W4_arg3 (d : Dev nD) : W4 m d ra3 = m ((d.tc : Thread nD τ).loc main_arg3) := by
  rw [← W1_arg3 m d, ← W2_of_ne m d (show ra3 ≠ r8 by decide), ← W3_of_ne m d (show ra3 ≠ r9 by decide)]
  unfold W4; after_results_simp <;> rfl

/-- The result: the TensorCore's total and the sum of the SparseCores' sums, added and divided. -/
theorem W4_out (d : Dev nD) : W4 m d r14
    = shapeCast S_ (Host.divf (addf (shapeCast S_ (tcOut (V2 m) d) shapeCasts_S1_S_)
        (Host.reduceAdd (scOut (predOf m d) (tgtOf m d) (tabOf m d)) (constant S_ .f32 0x00000000#32) reducesTo_S512_S_d0 h_S_))
        (constant S_ .f32 0x4C000000#32)) shapeCasts_S_S_ := by
  rw [← W3_r9 m d, ← W2_r8 m d, ← W3_of_ne m d (show r8 ≠ r9 by decide)]
  unfold W4; after_results_simp <;> rfl

/-! ## The frames -/

/-- The kernel's run: the arguments unchanged, the counters at zero, the result as the run's expression. -/
theorem run_read [∀ e, Nonempty (Elt F e)] : θ_run (Cert.KernelIdeal.defs (F := F)) (Cert.KernelIdeal.threads (F := F)) ⟨m, fun _ => 0, ρ⟩ fun r =>
    (∀ c : Dev nD, r.2.mem ((c.tc : Thread nD τ).loc main_v14) = W4 m c r14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run Cert.KernelIdeal.defs _ _).mono (fun _ h => ⟨fun c => ⟨h.1 c r14 (by decide),
    (h.1 c ra0 (by decide)).trans (W4_arg0 m c), (h.1 c ra1 (by decide)).trans (W4_arg1 m c),
    (h.1 c ra2 (by decide)).trans (W4_arg2 m c), (h.1 c ra3 (by decide)).trans (W4_arg3 m c)⟩, h.2⟩) (run_main m ρ)

theorem frame_kernelIdeal : Cert.quiescent_KernelIdeal := fun m ρ _ =>
  (θ_run Cert.KernelIdeal.defs _ _).mono (fun _ h => ⟨fun c => (h.1 c).2, h.2⟩) (run_read (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Wmse

end
-- ==== Proof.AsPrinted.lean ====
/-
  The program as it was written is the idealized one's text: the run over any float values, read at the machine's.
-/
module

public import proofs.«01_k».proof.Proof.Frames

@[expose] public section

set_option maxRecDepth 16384

noncomputable section

namespace Cert.Proof.Wmse

open Idealize.ShloMosaic Idealize.ShloMosaic.TcCoe Idealize.SL.Sem Idealize.ShloMosaic.StableHlo

set_option maxHeartbeats 2000000

theorem defs₀_same : Cert.Kernel.defs₀ (F := Bits) = Cert.KernelIdeal.defs₀ (F := Bits) := by
  funext c ℓ a
  fin_cases ℓ
  · cases c <;> rfl
  · cases c <;> rfl

theorem call_same (D₀ : Defs Cert.Kernel.nD Cert.Kernel.τ Cert.Kernel.sig (Elt Bits) Cert.Kernel.Λ₀) :
    (Cert.Kernel.sc (F := Bits)).defs (Pipeline.defs Cert.Kernel.pcfgs D₀)
      = (Cert.KernelIdeal.sc (F := Bits)).defs (Pipeline.defs Cert.KernelIdeal.pcfgs D₀) := by exact rfl

theorem defs_same : Cert.Kernel.defs (F := Bits) = Cert.KernelIdeal.defs (F := Bits) :=
  (call_same _).trans (congrArg (fun D₀ => (Cert.KernelIdeal.sc (F := Bits)).defs (Pipeline.defs Cert.KernelIdeal.pcfgs D₀)) defs₀_same)

theorem main_same : Cert.Kernel.main (F := Bits) = Cert.KernelIdeal.main (F := Bits) := by
  funext d; exact rfl

theorem threads_same : Cert.Kernel.threads (F := Bits) = Cert.KernelIdeal.threads (F := Bits) := by
  show (Cert.Kernel.sc (F := Bits)).threads (Cert.Kernel.main (F := Bits)) = _
  rw [main_same]
  exact rfl

theorem frame_kernel : Cert.quiescent_Kernel := by
  intro m ρ _
  rw [defs_same, threads_same]
  have h := run_read (F := Bits) m ρ
  exact (θ_run (Cert.KernelIdeal.defs (F := Bits)) _ _).mono (fun _ h => ⟨fun c => (h.1 c).2, h.2⟩) h

end Cert.Proof.Wmse

end
-- ==== Proof.Sums.lean ====
/-
  The summand of the weighted squared error at the extended reals, and sums that do not depend on how their terms are
  laid out: a reshape permutes an array's elements, a reduction groups them, and a range of rows is cut in equal runs.
-/
module

public import proofs.«01_k».proof.Proof.Share
public import Idealize.ShloMosaic.PureOps.Ideal
public import Idealize.ShloMosaic.Lib.IdealHost
public import Idealize.ShloMosaic.Lib.ValueIdx
public import Idealize.ShloMosaic.Lib.ValueIdxRank1

@[expose] public section

noncomputable section

namespace Cert.Proof.Wmse

open Cert.KernelIdeal
open Idealize.ShloMosaic Idealize.ShloMosaic.ValueIdx
open scoped BigOperators

/-- The weight of a target `t`: the last of the five whose threshold `t` has reached, asked from the last threshold down. -/
def weight (T : Fin 4 → EReal) (W : Fin 5 → EReal) (t : EReal) : EReal :=
  Scalar.select (Ideal.cmp .oge t (T 3)) (W 4) (Scalar.select (Ideal.cmp .oge t (T 2)) (W 3)
    (Scalar.select (Ideal.cmp .oge t (T 1)) (W 2) (Scalar.select (Ideal.cmp .oge t (T 0)) (W 1) (W 0))))

/-- One element's weighted squared error. -/
def term (T : Fin 4 → EReal) (W : Fin 5 → EReal) (p t : EReal) : EReal := weight T W t * ((p - t) * (p - t))

/-- The weighted squared errors of row `r`, added up. -/
def rowSum (T : Fin 4 → EReal) (W : Fin 5 → EReal) (f g : S32768x1024.Idx → EReal) (r : ℕ) : EReal :=
  ∑ c : Fin 1024, term T W (rowAt (F := Ideal) f r c) (rowAt (F := Ideal) g r c)

section General

variable {M : Type} [AddCommMonoid M]

/-- A range of `a * b` is `a` runs of `b`. -/
theorem sum_runs (a b : ℕ) (g : ℕ → M) : ∑ i ∈ Finset.range (a * b), g i = ∑ i ∈ Finset.range a, ∑ j ∈ Finset.range b, g (b * i + j) := by
  induction a with
  | zero => simp
  | succ a ih => rw [Nat.succ_mul, Finset.sum_range_add, ih, Finset.sum_range_succ, Nat.mul_comm a b]

/-- The same with the run and the place in it counted by `Fin`. -/
theorem sum_runs_fin (a b : ℕ) (g : ℕ → M) :
    ∑ i ∈ Finset.range (a * b), g i = ∑ i : Fin a, ∑ j : Fin b, g (b * i.val + j.val) := by
  rw [sum_runs, Finset.sum_range]
  exact Finset.sum_congr rfl fun i _ => Finset.sum_range _

/-- A reshape permutes the elements. -/
theorem sum_shapeCast {s t : Shape} (x : s.Idx → M) (h : s.ShapeCasts t) : ∑ i, shapeCast t x h i = ∑ i, x i :=
  Equiv.sum_comp (Shape.reshapeEquiv h) x

/-- Reindexing two arrays together by a reshape. -/
theorem sum_shapeCast₂ {s t : Shape} {α : Type} (φ : α → α → M) (x y : s.Idx → α) (h : s.ShapeCasts t) :
    ∑ i, φ (shapeCast t x h i) (shapeCast t y h i) = ∑ i, φ (x i) (y i) :=
  Equiv.sum_comp (Shape.reshapeEquiv h) fun i => φ (x i) (y i)

end General

/-- A reduction by addition groups the elements. -/
theorem sum_reduceAdd {s t : Shape} {axes : List (Fin s.rank)} (h : s.Reduces axes t) (x : s.Idx → EReal) :
    ∑ j, Ideal.reduceAdd h x j = ∑ i, x i := by
  unfold Ideal.reduceAdd
  exact Finset.sum_fiberwise Finset.univ (fun i => h.drop i) x

/-- A reduction to one element is the sum of all. -/
theorem reduceAdd_all {s t : Shape} {axes : List (Fin s.rank)} (h : s.Reduces axes t) [Subsingleton t.Idx] (x : s.Idx → EReal) (j : t.Idx) :
    Ideal.reduceAdd h x j = ∑ i, x i := by
  unfold Ideal.reduceAdd
  rw [Finset.filter_true_of_mem fun i _ => Subsingleton.elim _ _]

/-- The host's reduction to one element is the initial value and the sum of all. -/
theorem hostReduceAdd_all {s t : Shape} {axes : List (Fin s.rank)} (h : s.ReducesTo axes t) [Subsingleton t.Idx] (x : s.Idx → EReal) (z : EReal)
    (j : t.Idx) : Ideal.hostReduceAdd h x z j = z + ∑ i, x i := by
  unfold Ideal.hostReduceAdd
  rw [Finset.filter_true_of_mem fun i _ => Subsingleton.elim _ _]

/-- A sum over the indices of a vector is one over its coordinate. -/
theorem sum_idx1 {M : Type} [AddCommMonoid M] {n : ℕ} (f : (⟨1, ![n]⟩ : Shape).Idx → M) : ∑ i, f i = ∑ a : Fin n, f (ix1 a) :=
  (Equiv.sum_comp (idxEquiv1 (n := n)).symm f).symm

/-- A whole array's errors, row by row. -/
theorem sum_rows (T : Fin 4 → EReal) (W : Fin 5 → EReal) (f g : S32768x1024.Idx → EReal) :
    ∑ i, term T W (f i) (g i) = ∑ r ∈ Finset.range 32768, rowSum T W f g r := by
  rw [Finset.sum_range]
  refine (sum_idx2 (n0 := 32768) (n1 := 1024) fun i => term T W (f i) (g i)).trans (Finset.sum_congr rfl fun r _ => ?_)
  unfold rowSum rowAt
  refine Finset.sum_congr rfl fun c _ => ?_
  have e : (⟨r.val % 32768, Nat.mod_lt _ (by omega)⟩ : Fin 32768) = r := Fin.ext (Nat.mod_eq_of_lt r.isLt)
  rw [e]

end Cert.Proof.Wmse

end
-- ==== Proof.SumTc.lean ====
/-
  What the TensorCore's running column sums add up to at the extended reals: the weighted squared errors of the first
  18432 rows.
-/
module

public import proofs.«01_k».proof.Proof.Sums
public import proofs.«01_k».proof.Proof.Tc

@[expose] public section

noncomputable section

namespace Cert.Proof.Wmse

open Cert.KernelIdeal Cert.KernelIdeal.Gen
open Idealize.ShloMosaic Idealize.ShloMosaic.TcCoe Idealize.ShloMosaic.ValueIdx
open scoped BigOperators

/-- A block's step adds the errors of its elements. -/
theorem sum_tcStep (x0 x1 : Vec Ideal S512x1024 .f32) (x2 : Vec Ideal S5 .f32) (x3 : Vec Ideal S4 .f32) (acc : Vec Ideal S8x128 .f32) :
    ∑ i, (tcStep x0 x1 x2 x3 acc i : EReal)
      = ∑ i, (acc i : EReal) + ∑ i, term (fun k => x3 (ix1 k)) (fun k => x2 (ix1 k)) (x0 i) (x1 i) := by
  unfold tcStep k1_pay4
  dsimp only
  rw [shapeCast_self, shapeCast_self]
  refine (Finset.sum_add_distrib (f := fun i => (acc i : EReal))).trans (congrArg _ ?_)
  refine (sum_shapeCast (M := EReal) _ _).trans ?_
  exact sum_reduceAdd _ _

/-- One element has one index. -/
instance subsingleton_S1 : Subsingleton S1.Idx := ⟨fun a b => by
  funext k
  match k with
  | ⟨0, _⟩ => exact Subsingleton.elim (α := Fin 1) _ _⟩

/-- The total of the column sums. -/
theorem pay2_eq (v : Vec Ideal S8x128 .f32) : (k1_pay2 v : EReal) = ∑ i, (v i : EReal) := by
  unfold k1_pay2
  dsimp only
  refine (reduceAdd_all (t := S1) _ _ _).trans ?_
  exact sum_shapeCast (M := EReal) _ _

theorem pay3_sum : ∑ i, (k1_pay3 (F := Ideal) i : EReal) = 0 :=
  Finset.sum_eq_zero fun i _ => Ideal.ofBits_zero_f32

variable (V : (c : Dev nD) → (b : Ref sig .tc) → Buf (Elt Ideal) ((c : Thread nD τ).loc b))

theorem index_0 : ∀ t : Fin grid1.N, win1_0.index t 0 = t.val ∧ win1_0.index t 1 = 0 := by decide +kernel
theorem index_1 : ∀ t : Fin grid1.N, win1_1.index t 0 = t.val ∧ win1_1.index t 1 = 0 := by decide +kernel
theorem index_2 : ∀ t : Fin grid1.N, win1_2.index t 0 = 0 := by decide +kernel
theorem index_3 : ∀ t : Fin grid1.N, win1_3.index t 0 = 0 := by decide +kernel

/-- Block `t` of the predictions is rows `512 t` to `512 t + 511`. -/
theorem iblk_0 (c : Dev nD) (t : Fin cfg1.N) (r : Fin 512) (k : Fin 1024) :
    (iblk V c 0 t : Vec Ideal S512x1024 .f32) (ix2 r k) = rowAt (F := Ideal) (V c main_v0) (512 * t.val + r.val) k := by
  have hN : t.val < 36 := lt_of_lt_of_eq t.isLt (show cfg1.N = 36 from N_1)
  have hr := r.isLt
  unfold iblk rowAt
  rw [View.read_apply]
  show V c main_v0 _ = V c main_v0 _
  congr 1
  funext a
  apply Fin.ext
  match a with
  | ⟨0, _⟩ => show win1_0.index t 0 * 512 + 1 * r.val = (512 * t.val + r.val) % 32768; rw [(index_0 t).1]; omega
  | ⟨1, _⟩ => show win1_0.index t 1 * 1024 + 1 * k.val = k.val; rw [(index_0 t).2]; omega

/-- Block `t` of the targets is rows `512 t` to `512 t + 511`. -/
theorem iblk_1 (c : Dev nD) (t : Fin cfg1.N) (r : Fin 512) (k : Fin 1024) :
    (iblk V c 1 t : Vec Ideal S512x1024 .f32) (ix2 r k) = rowAt (F := Ideal) (V c main_v1) (512 * t.val + r.val) k := by
  have hN : t.val < 36 := lt_of_lt_of_eq t.isLt (show cfg1.N = 36 from N_1)
  have hr := r.isLt
  unfold iblk rowAt
  rw [View.read_apply]
  show V c main_v1 _ = V c main_v1 _
  congr 1
  funext a
  apply Fin.ext
  match a with
  | ⟨0, _⟩ => show win1_1.index t 0 * 512 + 1 * r.val = (512 * t.val + r.val) % 32768; rw [(index_1 t).1]; omega
  | ⟨1, _⟩ => show win1_1.index t 1 * 1024 + 1 * k.val = k.val; rw [(index_1 t).2]; omega

/-- Every point's block of the weights is all five. -/
theorem iblk_2 (c : Dev nD) (t : Fin cfg1.N) (k : Fin 5) : (iblk V c 2 t : Vec Ideal S5 .f32) (ix1 k) = V c main_arg2 (ix1 k) := by
  unfold iblk
  rw [View.read_apply]
  show V c main_arg2 _ = V c main_arg2 _
  congr 1
  funext a
  apply Fin.ext
  match a with
  | ⟨0, _⟩ => show win1_2.index t 0 * 5 + 1 * k.val = k.val; rw [index_2 t]; omega

/-- Every point's block of the thresholds is all four. -/
theorem iblk_3 (c : Dev nD) (t : Fin cfg1.N) (k : Fin 4) : (iblk V c 3 t : Vec Ideal S4 .f32) (ix1 k) = V c main_arg3 (ix1 k) := by
  unfold iblk
  rw [View.read_apply]
  show V c main_arg3 _ = V c main_arg3 _
  congr 1
  funext a
  apply Fin.ext
  match a with
  | ⟨0, _⟩ => show win1_3.index t 0 * 4 + 1 * k.val = k.val; rw [index_3 t]; omega

/-- The thresholds that the region is entered with. -/
abbrev thrV (c : Dev nD) (k : Fin 4) : EReal := V c main_arg3 (ix1 k)
/-- The weights that the region is entered with. -/
abbrev wgtV (c : Dev nD) (k : Fin 5) : EReal := V c main_arg2 (ix1 k)

/-- A point adds the errors of its 512 rows. -/
theorem sum_point (c : Dev nD) (t : Fin cfg1.N) (acc : Vec Ideal S8x128 .f32) :
    ∑ i, (tcStep (iblk V c 0 t) (iblk V c 1 t) (iblk V c 2 t) (iblk V c 3 t) acc i : EReal)
      = ∑ i, (acc i : EReal) + ∑ r ∈ Finset.range 512, rowSum (thrV V c) (wgtV V c) (V c main_v0) (V c main_v1) (512 * t.val + r) := by
  refine (sum_tcStep (iblk V c 0 t) (iblk V c 1 t) (iblk V c 2 t) (iblk V c 3 t) acc).trans (congrArg _ ?_)
  rw [Finset.sum_range]
  refine (sum_idx2 (n0 := 512) (n1 := 1024) _).trans (Finset.sum_congr rfl fun r _ => ?_)
  unfold rowSum
  refine Finset.sum_congr rfl fun k _ => ?_
  rw [iblk_0, iblk_1, show (fun k => (iblk V c 3 t : Vec Ideal S4 .f32) (ix1 k)) = thrV V c from funext fun k => iblk_3 V c t k,
    show (fun k => (iblk V c 2 t : Vec Ideal S5 .f32) (ix1 k)) = wgtV V c from funext fun k => iblk_2 V c t k]

theorem sum_tcAcc (c : Dev nD) : ∀ (n : ℕ) (hn : n < cfg1.N), ∑ i, (tcAcc V c n hn i : EReal)
    = ∑ k ∈ Finset.range (n + 1), ∑ r ∈ Finset.range 512, rowSum (thrV V c) (wgtV V c) (V c main_v0) (V c main_v1) (512 * k + r)
  | 0, hn => by
    refine (sum_point V c ⟨0, hn⟩ _).trans ?_
    rw [pay3_sum, zero_add, Finset.sum_range_one]
  | n + 1, hn => by
    rw [Finset.sum_range_succ, ← sum_tcAcc c n (Nat.lt_of_succ_lt hn)]
    exact sum_point V c ⟨n + 1, hn⟩ _

/-- The total is the errors of the first 18432 rows. -/
theorem tcOut_eq (c : Dev nD) (x : S1.Idx) : (tcOut V c x : EReal)
    = ∑ r ∈ Finset.range 18432, rowSum (thrV V c) (wgtV V c) (V c main_v0) (V c main_v1) r := by
  unfold tcOut
  rw [show (18432 : ℕ) = 36 * 512 from rfl, sum_runs 36 512]
  exact (pay2_eq _).trans (sum_tcAcc V c 35 tLast.isLt)

end Cert.Proof.Wmse

end
-- ==== Proof.SumSc.lean ====
/-
  What the SparseCore's 512 partial sums add up to at the extended reals: the weighted squared errors of rows 18432 on.
-/
module

public import proofs.«01_k».proof.Proof.Sums
public import Idealize.ShloMosaic.Lib.Pipeline.Value

@[expose] public section

noncomputable section

namespace Cert.Proof.Wmse

open Cert.KernelIdeal Cert.KernelIdeal.Gen
open Idealize.ShloMosaic Idealize.ShloMosaic.ValueIdx Idealize.ShloMosaic.Pipeline
open scoped BigOperators

variable (T : Fin 4 → EReal) (W : Fin 5 → EReal)

/-- Nine vectors that repeat the thresholds and the weights in every lane. -/
structure Lanes (C : Consts Ideal) : Prop where
  t0 : ∀ l, C.t0 l = T 0
  t1 : ∀ l, C.t1 l = T 1
  t2 : ∀ l, C.t2 l = T 2
  t3 : ∀ l, C.t3 l = T 3
  w0 : ∀ l, C.w0 l = W 0
  w1 : ∀ l, C.w1 l = W 1
  w2 : ∀ l, C.w2 l = W 2
  w3 : ∀ l, C.w3 l = W 3
  w4 : ∀ l, C.w4 l = W 4

/-- The sixteen lanes of a vector, added up. -/
def lanes (v : FVec Ideal S16 .f32) : EReal := ∑ l : Fin 16, (v (ix1 l) : EReal)

/-- All the lanes of the eight accumulators, added up. -/
def total (a : Acc Ideal) : EReal :=
  lanes a.1 + lanes a.2.1 + lanes a.2.2.1 + lanes a.2.2.2.1 + lanes a.2.2.2.2.1 + lanes a.2.2.2.2.2.1 + lanes a.2.2.2.2.2.2.1 + lanes a.2.2.2.2.2.2.2

/-- The error of element `k` of a chunk, counted along the rows. -/
def cellAt (p t : S16x1024.Idx → EReal) (k : ℕ) : EReal :=
  term T W (p (ix2 ⟨k / 1024 % 16, Nat.mod_lt _ (by omega)⟩ ⟨k % 1024, Nat.mod_lt _ (by omega)⟩))
    (t (ix2 ⟨k / 1024 % 16, Nat.mod_lt _ (by omega)⟩ ⟨k % 1024, Nat.mod_lt _ (by omega)⟩))

variable {T W} {C : Consts Ideal}

/-- Lane `l` of a row of sixteen. -/
theorem row_lane (x : Vec Ideal S1x16 .f32) (l : Fin 16) : shapeCast S16 x shapeCasts_S1x16_S16 (ix1 l) = x (ix2 0 l) :=
  shapeCast_apply x _ _ _ (by
    rw [Shape.rowMajor_val_two, Shape.rowMajor_val_one]
    show 0 * 16 + l.val = l.val
    omega)

theorem stepV_lane (h : Lanes T W C) (a : FVec Ideal S16 .f32) (p t : Vec Ideal S1x16 .f32) (l : Fin 16) :
    (stepV C a p t (ix1 l) : EReal) = a (ix1 l) + term T W (p (ix2 0 l)) (t (ix2 0 l)) := by
  unfold term weight
  rw [← row_lane p l, ← row_lane t l, ← h.t0 (ix1 l), ← h.t1 (ix1 l), ← h.t2 (ix1 l), ← h.t3 (ix1 l), ← h.w0 (ix1 l), ← h.w1 (ix1 l),
    ← h.w2 (ix1 l), ← h.w3 (ix1 l), ← h.w4 (ix1 l)]
  rfl

/-- Where lane `l` of accumulator `r` lies in trip `n`. -/
theorem lane_idx (n : ℕ) (r : Fin 8) (l : Fin 16) :
    (laneRect (offU n r) (offU_inb n r)).toLoadRect.idx (ix2 (n0 := 1) 0 l)
      = ix2 (n0 := 16) (n1 := 1024) ⟨(128 * n + (16 * r.val + l.val)) / 1024 % 16, Nat.mod_lt _ (by omega)⟩
          ⟨(128 * n + (16 * r.val + l.val)) % 1024, Nat.mod_lt _ (by omega)⟩ := by
  have h1 := r.isLt
  have h2 := l.isLt
  funext a
  apply Fin.ext
  match a with
  | ⟨0, _⟩ =>
    show n / 8 % 16 + 1 * 0 = (128 * n + (16 * r.val + l.val)) / 1024 % 16
    omega
  | ⟨1, _⟩ =>
    show 128 * (n % 8) + 16 * r.val + 1 * l.val = (128 * n + (16 * r.val + l.val)) % 1024
    omega

theorem lanes_stepV (h : Lanes T W C) (a : FVec Ideal S16 .f32) (p t : S16x1024.Idx → EReal) (n : ℕ) (r : Fin 8) (q : ℕ) (hq : 16 * r.val = q) :
    lanes (stepV C a (fun x => p ((laneRect (offU n r) (offU_inb n r)).toLoadRect.idx x)) (fun x => t ((laneRect (offU n r) (offU_inb n r)).toLoadRect.idx x)))
      = lanes a + ∑ l ∈ Finset.range 16, cellAt T W p t (128 * n + (q + l)) := by
  subst hq
  unfold lanes
  rw [Finset.sum_range, ← Finset.sum_add_distrib]
  refine Finset.sum_congr rfl fun l _ => ?_
  rw [stepV_lane h, lane_idx]
  rfl

theorem total_unitStep (h : Lanes T W C) (p t : S16x1024.Idx → EReal) (n : ℕ) (a : Acc Ideal) :
    total (unitStep C (offU n) (offU_inb n) p t a) = total a + ∑ j ∈ Finset.range 128, cellAt T W p t (128 * n + j) := by
  obtain ⟨a0, a1, a2, a3, a4, a5, a6, a7⟩ := a
  rw [show (128 : ℕ) = 8 * 16 from rfl, sum_runs 8 16 fun j => cellAt T W p t (8 * 16 * n + j)]
  simp only [Finset.sum_range_succ (n := 7), Finset.sum_range_succ (n := 6), Finset.sum_range_succ (n := 5), Finset.sum_range_succ (n := 4),
    Finset.sum_range_succ (n := 3), Finset.sum_range_succ (n := 2), Finset.sum_range_succ (n := 1), Finset.sum_range_one]
  unfold total unitStep
  dsimp only
  rw [lanes_stepV h a0 p t n 0 (16 * 0) rfl, lanes_stepV h a1 p t n 1 (16 * 1) rfl, lanes_stepV h a2 p t n 2 (16 * 2) rfl, lanes_stepV h a3 p t n 3 (16 * 3) rfl, lanes_stepV h a4 p t n 4 (16 * 4) rfl,
    lanes_stepV h a5 p t n 5 (16 * 5) rfl, lanes_stepV h a6 p t n 6 (16 * 6) rfl, lanes_stepV h a7 p t n 7 (16 * 7) rfl]
  generalize lanes a0 = b0, lanes a1 = b1, lanes a2 = b2, lanes a3 = b3, lanes a4 = b4, lanes a5 = b5, lanes a6 = b6, lanes a7 = b7
  rw [show 8 * 16 * n = 128 * n from rfl]
  abel

theorem total_unitsFold (h : Lanes T W C) (p t : S16x1024.Idx → EReal) (a : Acc Ideal) :
    ∀ n, total (unitsFold C p t n a) = total a + ∑ i ∈ Finset.range n, ∑ j ∈ Finset.range 128, cellAt T W p t (128 * i + j)
  | 0 => by simp [unitsFold]
  | n + 1 => by
    rw [Finset.sum_range_succ, ← add_assoc, ← total_unitsFold h p t a n]
    exact total_unitStep h p t n _

/-- A chunk adds the errors of its sixteen rows. -/
theorem total_chunk (h : Lanes T W C) (p t : S16x1024.Idx → EReal) (a : Acc Ideal) :
    total (unitsFold C p t 128 a) = total a + ∑ r : Fin 16, ∑ c : Fin 1024, term T W (p (ix2 r c)) (t (ix2 r c)) := by
  rw [total_unitsFold h, ← sum_runs 128 128, show 128 * 128 = 16 * 1024 from rfl, sum_runs_fin 16 1024]
  refine congrArg (total a + ·) (Finset.sum_congr rfl fun r _ => Finset.sum_congr rfl fun c _ => ?_)
  have h1 := r.isLt
  have h2 := c.isLt
  have e1 : (⟨(1024 * r.val + c.val) / 1024 % 16, Nat.mod_lt _ (by omega)⟩ : Fin 16) = r := Fin.ext (by show (1024 * r.val + c.val) / 1024 % 16 = r.val; omega)
  have e2 : (⟨(1024 * r.val + c.val) % 1024, Nat.mod_lt _ (by omega)⟩ : Fin 1024) = c := Fin.ext (by show (1024 * r.val + c.val) % 1024 = c.val; omega)
  unfold cellAt
  rw [e1, e2]

/-- The chunks of tile `w` add the errors of its rows, a chunk's sixteen at a time. -/
theorem total_chunks (h : Lanes T W C) (f g : S32768x1024.Idx → EReal) (w : ℕ) (a : Acc Ideal) :
    ∀ n, n ≤ 28 → total (chunksFold C (scRows (F := Ideal) w f) (scRows (F := Ideal) w g) n a)
      = total a + ∑ k ∈ Finset.range n, ∑ r ∈ Finset.range 16, rowSum T W f g (18432 + (448 * w + (16 * k + r)))
  | 0, _ => by simp [chunksFold]
  | n + 1, hn => by
    rw [Finset.sum_range_succ, ← add_assoc, ← total_chunks h f g w a n (by omega)]
    refine (total_chunk h _ _ _).trans (congrArg _ ?_)
    rw [Finset.sum_range]
    refine Finset.sum_congr rfl fun r _ => ?_
    unfold rowSum scRows
    have e : 448 * w + 16 * (n % 28) + 18432 + r.val = 18432 + (448 * w + (16 * n + r.val)) := by
      rw [Nat.mod_eq_of_lt (by omega : n < 28)]; omega
    refine Finset.sum_congr rfl fun c _ => ?_
    show term T W (rowAt (F := Ideal) f (448 * w + 16 * (n % 28) + 18432 + r.val) c) (rowAt (F := Ideal) g (448 * w + 16 * (n % 28) + 18432 + r.val) c) = _
    rw [e]

theorem lanes_zero : lanes (k0_pay66 (F := Ideal)) = 0 := by
  unfold lanes
  refine Finset.sum_eq_zero fun l _ => ?_
  exact Ideal.ofBits_zero_f32

theorem lanes_pay2 (a0 a1 a2 a3 a4 a5 a6 a7 : FVec Ideal S16 .f32) :
    lanes (k0_pay2 a0 a1 a2 a3 a4 a5 a6 a7) = lanes a0 + lanes a1 + lanes a2 + lanes a3 + lanes a4 + lanes a5 + lanes a6 + lanes a7 := by
  unfold lanes
  simp only [← Finset.sum_add_distrib]
  refine Finset.sum_congr rfl fun l _ => ?_
  unfold k0_pay2
  rw [shapeCast_self]
  rfl

/-- The sixteen sums of tile `w` add up to the errors of its 448 rows. -/
theorem lanes_tileSum (f g : S32768x1024.Idx → EReal) (X : S9x16.Idx → EReal) (h : Lanes T W (constsOf (F := Ideal) X)) (w : ℕ) :
    lanes (tileSum (F := Ideal) f g X w) = ∑ j ∈ Finset.range 448, rowSum T W f g (18432 + (448 * w + j)) := by
  unfold tileSum tileVec
  dsimp only
  rw [lanes_pay2]
  refine (total_chunks h f g w _ 28 le_rfl).trans ?_
  rw [show (448 : ℕ) = 28 * 16 from rfl, sum_runs 28 16 fun j => rowSum T W f g (18432 + (28 * 16 * w + j))]
  unfold total
  dsimp only
  rw [lanes_zero]
  simp only [add_zero, zero_add]

/-- The 512 partial sums add up to the errors of the last 14336 rows. -/
theorem sum_scOut (f g : S32768x1024.Idx → EReal) (X : S9x16.Idx → EReal) (h : Lanes T W (constsOf (F := Ideal) X)) :
    ∑ y, (scOut (F := Ideal) f g X y : EReal) = ∑ j ∈ Finset.range 14336, rowSum T W f g (18432 + j) := by
  rw [show (14336 : ℕ) = 32 * 448 from rfl, sum_runs 32 448 fun j => rowSum T W f g (18432 + j)]
  refine (sum_idx1 (n := 512) fun y => (scOut (F := Ideal) f g X y : EReal)).trans ?_
  let G : ℕ → EReal := fun k => tileSum (F := Ideal) f g X (k / 16) (ix1 ⟨k % 16, Nat.mod_lt _ (by omega)⟩)
  refine (Fin.sum_univ_eq_sum_range G 512).trans ?_
  rw [show (512 : ℕ) = 32 * 16 from rfl, sum_runs_fin 32 16, Finset.sum_range]
  refine Finset.sum_congr rfl fun w _ => ?_
  rw [← lanes_tileSum f g X h w.val]
  unfold lanes
  refine Finset.sum_congr rfl fun l _ => ?_
  have h1 := l.isLt
  have e1 : (16 * w.val + l.val) / 16 = w.val := by omega
  have e2 : (⟨(16 * w.val + l.val) % 16, Nat.mod_lt _ (by omega)⟩ : Fin 16) = l := Fin.ext (by show (16 * w.val + l.val) % 16 = l.val; omega)
  show (tileSum (F := Ideal) f g X ((16 * w.val + l.val) / 16) (ix1 ⟨(16 * w.val + l.val) % 16, _⟩) : EReal) = _
  rw [e1, e2]

end Cert.Proof.Wmse

end
-- ==== Proof.SumRef.lean ====
/-
  The reference's result at the extended reals. Its weight of a target is the table's entry at the number of thresholds
  the target has reached; when the thresholds ascend that is the weight that the kernel selects.
-/
module

public import proofs.«01_k».proof.Proof.Sums
public import proofs.«01_k».proof.Proof.Gen.ReferenceIdeal.Run
public import Idealize.ShloMosaic.Lib.Pointwise
public import Idealize.ShloMosaic.Lib.ReduceAll

@[expose] public section

noncomputable section

namespace Cert.Proof.Wmse

open Cert.ReferenceIdeal Cert.ReferenceIdeal.Gen
open Idealize.ShloMosaic Idealize.ShloMosaic.TcCoe
open scoped BigOperators

variable (A : S4x8192x1024.Idx → EReal) (B : S4.Idx → EReal) (C : S5.Idx → EReal)

/-- How many thresholds each target has reached. -/
def cnt : IVec S4x8192x1024 32 :=
  Host.reduce IntOp.addi (extui 32 (cmpf (F := Ideal) (φ := .f32) .oge (broadcastInDim S4x8192x1024x4 ![0, 1, 2, 3] bcast_S4x8192x1024x1_S4x8192x1024x4_0_1_2_3 (broadcastInDim S4x8192x1024x1 ![0, 1, 2] bcast_S4x8192x1024_S4x8192x1024x1_0_1_2 A)) (broadcastInDim S4x8192x1024x4 ![0, 1, 2, 3] bcast_S1x1x1x4_S4x8192x1024x4_0_1_2_3 (broadcastInDim S1x1x1x4 ![3] bcast_S4_S1x1x1x4_3 B))) natLt_1_32) (constantI S_ 32 0#32) reducesTo_S4x8192x1024x4_S4x8192x1024_d3 h_S_

/-- The positions at which the table of weights is read. -/
def pos : IVec S4x8192x1024x1 32 :=
  broadcastInDim S4x8192x1024x1 ![0, 1, 2] bcast_S4x8192x1024_S4x8192x1024x1_0_1_2 (select (cmpi .slt (cnt A B) (broadcastInDim S4x8192x1024 ![] bcast_S_S4x8192x1024 (constantI S_ 32 0#32))) (addi (cnt A B) (broadcastInDim S4x8192x1024 ![] bcast_S_S4x8192x1024 (constantI S_ 32 5#32))) (cnt A B))

/-- Whether the position lies in the table. -/
def inside : IVec S4x8192x1024 1 :=
  Host.reduce IntOp.andi (andi (cmpi .sge (pos A B) (broadcastInDim S4x8192x1024x1 ![] bcast_S_S4x8192x1024x1 (constantI S_ 32 0#32))) (cmpi .sle (pos A B) (broadcastInDim S4x8192x1024x1 ![0, 1, 2, 3] bcast_S1x1x1x1_S4x8192x1024x1_0_1_2_3 (broadcastInDim S1x1x1x1 ![3] bcast_S1_S1x1x1x1_3 (constantI S1 32 4#32))))) (constantI S_ 1 1#1) reducesTo_S4x8192x1024x1_S4x8192x1024_d3 h_S_

/-- The weights read. -/
def wts : FVec Ideal S4x8192x1024 .f32 :=
  select (inside A B) (Host.gather gather_S5_S4x8192x1024x1_S4x8192x1024_n_0_n_n_0_3_1 C (pos A B)) (broadcastInDim S4x8192x1024 ![] bcast_S_S4x8192x1024 (constant (F := Ideal) S_ .f32 0x7FC00000#32))

theorem res_eq (m : (ℓ : Loc nD τ sig) → Buf (Elt Ideal) ℓ) (c : Dev nD) :
    Value.res_main_v12 m c = Host.divf (F := Ideal) (φ := .f32) (Host.reduceAdd (F := Ideal) (φ := .f32) (mulf (wts (m ((c.tc : Thread nD τ).loc main_arg1)) (m ((c.tc : Thread nD τ).loc main_arg3)) (m ((c.tc : Thread nD τ).loc main_arg2)))
      (mulf (subf (m ((c.tc : Thread nD τ).loc main_arg0)) (m ((c.tc : Thread nD τ).loc main_arg1))) (subf (m ((c.tc : Thread nD τ).loc main_arg0)) (m ((c.tc : Thread nD τ).loc main_arg1)))))
        (constant S_ .f32 0x00000000#32) reducesTo_S4x8192x1024_S_d0_1_2 h_S_) (constant S_ .f32 0x4C000000#32) := by
  unfold Value.res_main_v12 wts inside pos cnt
  exact rfl

/-- The thresholds ascend. -/
structure Ascend (B : S4.Idx → EReal) : Prop where
  h01 : B (ix1 0) ≤ B (ix1 1)
  h12 : B (ix1 1) ≤ B (ix1 2)
  h23 : B (ix1 2) ≤ B (ix1 3)

/-- The thresholds and the weights of two tables. -/
abbrev thr (B : S4.Idx → EReal) (k : Fin 4) : EReal := B (ValueIdx.ix1 k)
/-- The weights of a table. -/
abbrev wgt (C : S5.Idx → EReal) (k : Fin 5) : EReal := C (ValueIdx.ix1 k)

theorem fold_four (f : Fin 4 → BitVec 32) : Finset.fold IntOp.addi (0#32) f Finset.univ = f 0 + (f 1 + (f 2 + (f 3 + 0#32))) := by
  exact rfl

variable {A B C}

/-- The count, and the weight that is selected: the same position of the table. -/
theorem cnt_apply (h : Ascend B) (i : Fin 4) (j : Fin 8192) (k : Fin 1024) :
    ∃ n : Fin 5, cnt A B (ix3 i j k) = BitVec.ofNat 32 n.val ∧ weight (thr B) (wgt C) (A (ix3 i j k)) = C (ix1 n) := by
  have e : cnt A B (ix3 i j k) = Finset.fold IntOp.addi (0#32) (fun x : Fin 4 => BitVec.setWidth 32 (BitVec.ofBool (decide (B (ix1 x) ≤ A (ix3 i j k))))) Finset.univ := by
    unfold cnt
    pointwise
  rw [e, fold_four]
  generalize A (ix3 i j k) = t
  unfold weight
  show ∃ n : Fin 5, _ ∧ Scalar.select (BitVec.ofBool (decide (B (ix1 3) ≤ t))) (C (ix1 4)) (Scalar.select (BitVec.ofBool (decide (B (ix1 2) ≤ t))) (C (ix1 3))
    (Scalar.select (BitVec.ofBool (decide (B (ix1 1) ≤ t))) (C (ix1 2)) (Scalar.select (BitVec.ofBool (decide (B (ix1 0) ≤ t))) (C (ix1 1)) (C (ix1 0))))) = _
  by_cases h3 : B (ix1 3) ≤ t
  · have h2 := h.h23.trans h3
    have h1 := h.h12.trans h2
    have h0 := h.h01.trans h1
    rw [decide_eq_true h0, decide_eq_true h1, decide_eq_true h2, decide_eq_true h3]
    exact ⟨4, rfl, rfl⟩
  by_cases h2 : B (ix1 2) ≤ t
  · have h1 := h.h12.trans h2
    have h0 := h.h01.trans h1
    rw [decide_eq_true h0, decide_eq_true h1, decide_eq_true h2, decide_eq_false h3]
    exact ⟨3, rfl, rfl⟩
  by_cases h1 : B (ix1 1) ≤ t
  · have h0 := h.h01.trans h1
    rw [decide_eq_true h0, decide_eq_true h1, decide_eq_false h2, decide_eq_false h3]
    exact ⟨2, rfl, rfl⟩
  by_cases h0 : B (ix1 0) ≤ t
  · rw [decide_eq_true h0, decide_eq_false h1, decide_eq_false h2, decide_eq_false h3]
    exact ⟨1, rfl, rfl⟩
  · rw [decide_eq_false h0, decide_eq_false h1, decide_eq_false h2, decide_eq_false h3]
    exact ⟨0, rfl, rfl⟩

theorem pos_apply (i : Fin 4) (j : Fin 8192) (k : Fin 1024) (u : Fin 1) (n : Fin 5) (hn : cnt A B (ix3 i j k) = BitVec.ofNat 32 n.val) :
    pos A B (ix4 i j k u) = BitVec.ofNat 32 n.val := by
  unfold pos
  pointwise
  rw [hn]
  fin_cases n <;> rfl

theorem inside_apply (i : Fin 4) (j : Fin 8192) (k : Fin 1024) (n : Fin 5) (hn : cnt A B (ix3 i j k) = BitVec.ofNat 32 n.val) :
    inside A B (ix3 i j k) = 1#1 := by
  unfold inside
  pointwise
  rw [show (fun x : Fin 1 => IntOp.andi (IntOp.cmpi CmpIPredicate.sge (pos A B (ix4 i j k x)) 0#32) (IntOp.cmpi CmpIPredicate.sle (pos A B (ix4 i j k x)) 4#32))
    = fun _ => 1#1 from funext fun x => by rw [pos_apply i j k x n hn]; fin_cases n <;> rfl]
  exact rfl

/-- The table read at a position that lies in it. -/
theorem gather_apply (idx : IVec S4x8192x1024x1 32) (i : Fin 4) (j : Fin 8192) (k : Fin 1024) (n : Fin 5) (hn : idx (ix4 i j k 0) = BitVec.ofNat 32 n.val) :
    Host.gather gather_S5_S4x8192x1024x1_S4x8192x1024_n_0_n_n_0_3_1 C idx (ix3 i j k) = C (ix1 n) := by
  unfold Host.gather
  congr 1
  funext a
  obtain rfl : a = 0 := Subsingleton.elim (α := Fin 1) _ _
  apply Fin.ext
  have hb : (0 : Fin 1) ∉ gather_S5_S4x8192x1024x1_S4x8192x1024_n_0_n_n_0_3_1.operandBatchingDims := List.not_mem_nil
  have hk : (0 : Fin 1) ∉ gather_S5_S4x8192x1024x1_S4x8192x1024_n_0_n_n_0_3_1.sKept := fun h =>
    ((GatherDims.mem_sKept _ _).mp h).1 (List.mem_singleton.mpr rfl)
  have hm : (0 : Fin 1) ∈ gather_S5_S4x8192x1024x1_S4x8192x1024_n_0_n_n_0_3_1.startIndexMap := List.mem_singleton.mpr rfl
  simp only [GatherDims.operandIdx, GatherDims.batchCoord_eq_zero _ _ _ hb, GatherDims.offCoord_eq_zero _ _ _ hk, Nat.add_zero, GatherDims.start, dif_pos hm]
  have hs : gather_S5_S4x8192x1024x1_S4x8192x1024_n_0_n_n_0_3_1.siIdx (ix3 i j k) ⟨List.idxOf (0 : Fin 1) gather_S5_S4x8192x1024x1_S4x8192x1024_n_0_n_n_0_3_1.startIndexMap, List.idxOf_lt_length_iff.2 hm⟩ = ix4 i j k 0 := by
    funext b
    apply Fin.ext
    match b with
    | ⟨0, _⟩ => rfl
    | ⟨1, _⟩ => rfl
    | ⟨2, _⟩ => rfl
    | ⟨3, _⟩ => rfl
  show min (idx (gather_S5_S4x8192x1024x1_S4x8192x1024_n_0_n_n_0_3_1.siIdx (ix3 i j k) ⟨List.idxOf (0 : Fin 1) gather_S5_S4x8192x1024x1_S4x8192x1024_n_0_n_n_0_3_1.startIndexMap, List.idxOf_lt_length_iff.2 hm⟩)).toInt.toNat (5 - 1) = n.val
  rw [hs, hn]
  fin_cases n <;> rfl

theorem wts_apply (h : Ascend B) (x : S4x8192x1024.Idx) : wts A B C x = weight (thr B) (wgt C) (A x) := by
  obtain ⟨i, j, k, rfl⟩ : ∃ (i : Fin 4) (j : Fin 8192) (k : Fin 1024), x = ix3 i j k := ⟨x 0, x 1, x 2, eq_ix3 x⟩
  obtain ⟨n, hn, hw⟩ := cnt_apply (A := A) (C := C) h i j k
  rw [hw]
  unfold wts
  refine (ValueIdx.select_apply _ _ _ _).trans ?_
  rw [inside_apply i j k n hn, ValueIdx.select_one]
  exact gather_apply (pos A B) i j k n (pos_apply i j k 0 n hn)

end Cert.Proof.Wmse

end
-- ==== Proof.Table.lean ====
/-
  The nine rows that the SparseCore fetches, at the extended reals: the four thresholds and the five weights, each
  repeated in every lane. And the precondition, read as three inequalities.
-/
module

public import proofs.«01_k».proof.Proof.SumSc
public import proofs.«01_k».proof.Proof.SumRef
public import proofs.«01_k».proof.Defs

@[expose] public section

noncomputable section

namespace Cert.Proof.Wmse

open Cert.KernelIdeal Cert.KernelIdeal.Gen
open Idealize.ShloMosaic Idealize.ShloMosaic.TcCoe
open scoped BigOperators

section Table

variable (B : S4.Idx → EReal) (C : S5.Idx → EReal)

/-- The table that the host lays out. -/
def table : FVec Ideal S9x16 .f32 :=
  mulf (broadcastInDim S9x16 ![0, 1] bcast_S9x1_S9x16_0_1 (shapeCast S9x1 (concatenate S9 0 [⟨S4, (B : FVec Ideal S4 .f32)⟩, ⟨S5, (C : FVec Ideal S5 .f32)⟩] concatenates_S4_S5_S9_d0) shapeCasts_S9_S9x1))
    (broadcastInDim S9x16 ![0, 1] bcast_S1x16_S9x16_0_1 (broadcastInDim S1x16 ![] bcast_S_S1x16 (constant S_ .f32 0x3F800000#32)))

theorem table_t0 (l : Fin 16) : table B C (ix2 0 l) = B (ix1 0) := by unfold table; pointwise [Ideal.ofBits_one_f32]
theorem table_t1 (l : Fin 16) : table B C (ix2 1 l) = B (ix1 1) := by unfold table; pointwise [Ideal.ofBits_one_f32]
theorem table_t2 (l : Fin 16) : table B C (ix2 2 l) = B (ix1 2) := by unfold table; pointwise [Ideal.ofBits_one_f32]
theorem table_t3 (l : Fin 16) : table B C (ix2 3 l) = B (ix1 3) := by unfold table; pointwise [Ideal.ofBits_one_f32]
theorem table_w0 (l : Fin 16) : table B C (ix2 4 l) = C (ix1 0) := by unfold table; pointwise [Ideal.ofBits_one_f32]
theorem table_w1 (l : Fin 16) : table B C (ix2 5 l) = C (ix1 1) := by unfold table; pointwise [Ideal.ofBits_one_f32]
theorem table_w2 (l : Fin 16) : table B C (ix2 6 l) = C (ix1 2) := by unfold table; pointwise [Ideal.ofBits_one_f32]
theorem table_w3 (l : Fin 16) : table B C (ix2 7 l) = C (ix1 3) := by unfold table; pointwise [Ideal.ofBits_one_f32]
theorem table_w4 (l : Fin 16) : table B C (ix2 8 l) = C (ix1 4) := by unfold table; pointwise [Ideal.ofBits_one_f32]

/-- A row fetched, at a lane. -/
theorem row_read (X : S9x16.Idx → EReal) (r : Fin 9) (h : ∀ a, (![r.val, 0] : Fin 2 → ℕ) a + S1x16.size a ≤ S9x16.size a) (l : S16.Idx) :
    (shapeCast S16 (fun x => X ((Rect.unit (s := S9x16) ![r.val, 0] S1x16.size h).toLoadRect.idx x)) shapeCasts_S1x16_S16 l : EReal) = X (ix2 r (l 0)) := by
  rw [ValueIdx.eq_ix1 l]
  refine (row_lane (fun x => X ((Rect.unit (s := S9x16) ![r.val, 0] S1x16.size h).toLoadRect.idx x)) (l 0)).trans (congrArg X ?_)
  funext a
  apply Fin.ext
  match a with
  | ⟨0, _⟩ => show r.val + 1 * 0 = r.val; omega
  | ⟨1, _⟩ => show 0 + 1 * (l 0).val = (l 0).val; omega

/-- The vectors fetched are the thresholds and the weights. -/
theorem lanes_table : Lanes (thr B) (wgt C) (constsOf (F := Ideal) (table B C)) where
  t0 l := (row_read (table B C) 0 inb_S9x16_S1x16_0_0 l).trans (table_t0 B C (l 0))
  t1 l := (row_read (table B C) 1 inb_S9x16_S1x16_1_0 l).trans (table_t1 B C (l 0))
  t2 l := (row_read (table B C) 2 inb_S9x16_S1x16_2_0 l).trans (table_t2 B C (l 0))
  t3 l := (row_read (table B C) 3 inb_S9x16_S1x16_3_0 l).trans (table_t3 B C (l 0))
  w0 l := (row_read (table B C) 4 inb_S9x16_S1x16_4_0 l).trans (table_w0 B C (l 0))
  w1 l := (row_read (table B C) 5 inb_S9x16_S1x16_5_0 l).trans (table_w1 B C (l 0))
  w2 l := (row_read (table B C) 6 inb_S9x16_S1x16_6_0 l).trans (table_w2 B C (l 0))
  w3 l := (row_read (table B C) 7 inb_S9x16_S1x16_7_0 l).trans (table_w3 B C (l 0))
  w4 l := (row_read (table B C) 8 inb_S9x16_S1x16_8_0 l).trans (table_w4 B C (l 0))

end Table

/-- The precondition's shapes. -/
instance preFacts : Cert.Pre_thresholds_ascend.Facts := ⟨by decide, by decide, by decide, by decide⟩

/-- What the precondition says of the thresholds. -/
theorem ascend_of_pre (P Q : S4x8192x1024.Idx → EReal) (B : S4.Idx → EReal) (C : S5.Idx → EReal)
    (h : Cert.Pre_thresholds_ascend.fn (F := Ideal) P Q C B = fun _ => 1#1) : Ascend B := by
  have e := congrFun h ValueIdx.ix0
  have a : ∀ i, cmpf (F := Ideal) (φ := .f32) .oge (extractStridedSlice Cert.Pre_thresholds_ascend.S3 ![1] B Cert.Pre_thresholds_ascend.Facts.slices_S4_S3_1)
      (extractStridedSlice Cert.Pre_thresholds_ascend.S3 ![0] B Cert.Pre_thresholds_ascend.Facts.slices_S4_S3_0) i = 1#1 :=
    fun i => Host.reduce_andi_all _ _ _ _ _ e i
  have b (x y : EReal) (hxy : BitVec.ofBool (decide (y ≤ x)) = 1#1) : y ≤ x := by
    by_contra hn
    simp [hn] at hxy
  refine ⟨b _ _ ?_, b _ _ ?_, b _ _ ?_⟩
  · have o := a (ix1 0); pointwise at o; exact o
  · have o := a (ix1 1); pointwise at o; exact o
  · have o := a (ix1 2); pointwise at o; exact o

end Cert.Proof.Wmse
-- ==== Proof.Value.lean ====
/-
  The two results are one: the kernel's two shares of the rows add up to the reference's sum, and both divide it by the
  number of elements.
-/
module

public import proofs.«01_k».proof.Proof.Frames
public import proofs.«01_k».proof.Proof.SumTc
public import proofs.«01_k».proof.Proof.Table

@[expose] public section

noncomputable section

namespace Cert.Proof.Wmse

open Cert.KernelIdeal Cert.KernelIdeal.Gen
open Idealize.ShloMosaic Idealize.ShloMosaic.TcCoe Idealize.SL.Sem Idealize.ShloMosaic.Pipeline
open scoped BigOperators

theorem frame_kernelIdeal_pre : Cert.quiescent_KernelIdeal_pre_thresholds_ascend := fun m ρ _ => frame_kernelIdeal m ρ trivial
theorem frame_reference_pre : Cert.quiescent_ReferenceIdeal_pre_thresholds_ascend := fun m ρ _ => frame_reference m ρ trivial

/-- No axes, one index. -/
instance subsingleton_S_ : Subsingleton S_.Idx := ⟨fun a b => funext fun k => k.elim0⟩

/-- A weighted squared error. -/
theorem error_apply {s : Shape} (w P A : FVec Ideal s .f32) (i : s.Idx) :
    (mulf w (mulf (subf P A) (subf P A)) i : EReal) = w i * ((P i - A i) * (P i - A i)) := rfl

/-- A host's total that starts at zero. -/
theorem total_zero {s : Shape} {axes : List (Fin s.rank)} (h : s.ReducesTo axes S_) (hu : 0 < S_.numel) (x : FVec Ideal s .f32) (j : S_.Idx) :
    (Host.reduceAdd x (constant S_ .f32 0x00000000#32) h hu j : EReal) = ∑ i, (x i : EReal) := by
  refine (ValueIdx.hostReduceAdd_apply _ _ _ _ _).trans ((hostReduceAdd_all (t := S_) _ _ _ _).trans ?_)
  exact (congrArg (· + _) Ideal.ofBits_zero_f32).trans (zero_add _)

/-- The sum of the weighted squared errors over the whole arrays. -/
def wsum (P A : S4x8192x1024.Idx → EReal) (C : S5.Idx → EReal) (B : S4.Idx → EReal) : EReal :=
  ∑ i, term (thr B) (wgt C) (P i) (A i)

/-- The mean that both programs leave. -/
def mean (P A : S4x8192x1024.Idx → EReal) (C : S5.Idx → EReal) (B : S4.Idx → EReal) : FVec Ideal S_ .f32 :=
  Host.divf (F := Ideal) (φ := .f32) (fun _ => wsum P A C B) (constant S_ .f32 0x4C000000#32)

section Kernel

variable (m : (ℓ : Loc nD τ sig) → Buf (Elt Ideal) ℓ) (d : Dev nD)

/-- The kernel's two shares. -/
theorem kernel_sum :
    addf (F := Ideal) (φ := .f32) (shapeCast S_ (tcOut (V2 m) d) shapeCasts_S1_S_)
        (Host.reduceAdd (F := Ideal) (φ := .f32) (scOut (predOf m d) (tgtOf m d) (tabOf m d)) (constant S_ .f32 0x00000000#32) reducesTo_S512_S_d0 h_S_)
      = fun _ => wsum (m ((d.tc : Thread nD τ).loc main_arg0)) (m ((d.tc : Thread nD τ).loc main_arg1)) (m ((d.tc : Thread nD τ).loc main_arg2)) (m ((d.tc : Thread nD τ).loc main_arg3)) := by
  have hT : tabOf m d = table (m ((d.tc : Thread nD τ).loc main_arg3)) (m ((d.tc : Thread nD τ).loc main_arg2)) := W1_r7 m d
  have v0 : V2 m d main_v0 = predOf m d := W2_of_ne m d (show r0 ≠ r8 by decide)
  have v1 : V2 m d main_v1 = tgtOf m d := W2_of_ne m d (show r1 ≠ r8 by decide)
  have v2 : V2 m d main_arg2 = m ((d.tc : Thread nD τ).loc main_arg2) := (W2_of_ne m d (show ra2 ≠ r8 by decide)).trans (W1_arg2 m d)
  have v3 : V2 m d main_arg3 = m ((d.tc : Thread nD τ).loc main_arg3) := (W2_of_ne m d (show ra3 ≠ r8 by decide)).trans (W1_arg3 m d)
  funext j
  have hA : (shapeCast S_ (tcOut (V2 m) d) shapeCasts_S1_S_ j : EReal)
      = ∑ r ∈ Finset.range 18432, rowSum (thr (m ((d.tc : Thread nD τ).loc main_arg3))) (wgt (m ((d.tc : Thread nD τ).loc main_arg2))) (predOf m d) (tgtOf m d) r := by
    refine (tcOut_eq (V2 m) d _).trans ?_
    unfold thrV wgtV
    rw [v0, v1, v2, v3]
  have hB : (Host.reduceAdd (F := Ideal) (φ := .f32) (scOut (predOf m d) (tgtOf m d) (tabOf m d)) (constant S_ .f32 0x00000000#32) reducesTo_S512_S_d0 h_S_ j : EReal)
      = ∑ k ∈ Finset.range 14336, rowSum (thr (m ((d.tc : Thread nD τ).loc main_arg3))) (wgt (m ((d.tc : Thread nD τ).loc main_arg2))) (predOf m d) (tgtOf m d) (18432 + k) := by
    refine (total_zero _ _ _ _).trans ?_
    rw [hT]
    exact sum_scOut _ _ _ (lanes_table _ _)
  refine (congrArg₂ (· + ·) hA hB).trans ?_
  rw [← Finset.sum_range_add _ 18432 14336, ← sum_rows]
  unfold wsum
  have p0 : predOf m d = shapeCast S32768x1024 (m ((d.tc : Thread nD τ).loc main_arg0)) shapeCasts_S4x8192x1024_S32768x1024 := W1_r0 m d
  have p1 : tgtOf m d = shapeCast S32768x1024 (m ((d.tc : Thread nD τ).loc main_arg1)) shapeCasts_S4x8192x1024_S32768x1024 := W1_r1 m d
  rw [p0, p1]
  exact sum_shapeCast₂ _ _ _ _

theorem kernel_mean : W4 m d r14
    = mean (m ((d.tc : Thread nD τ).loc main_arg0)) (m ((d.tc : Thread nD τ).loc main_arg1)) (m ((d.tc : Thread nD τ).loc main_arg2)) (m ((d.tc : Thread nD τ).loc main_arg3)) := by
  rw [W4_out, shapeCast_self, kernel_sum]
  rfl

end Kernel

theorem reference_mean (m : (ℓ : Loc Cert.ReferenceIdeal.nD Cert.ReferenceIdeal.τ Cert.ReferenceIdeal.sig) → Buf (Elt Ideal) ℓ) (c : Dev Cert.ReferenceIdeal.nD)
    (h : Ascend (m ((c.tc : Thread Cert.ReferenceIdeal.nD Cert.ReferenceIdeal.τ).loc Cert.ReferenceIdeal.main_arg3))) :
    Cert.ReferenceIdeal.Value.res_main_v12 m c
      = mean (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) := by
  rw [res_eq]
  unfold mean
  refine congrArg (fun s => Host.divf (F := Ideal) (φ := .f32) s (constant S_ .f32 0x4C000000#32)) (funext fun j => ?_)
  refine Eq.trans (total_zero _ _ _ _) ?_
  unfold wsum
  refine Finset.sum_congr rfl fun i _ => ?_
  rw [error_apply, wts_apply (h := h)]
  rfl

/-- At the extended reals the kernel and the reference leave one result. -/
theorem algebraic : Cert.algebraic_KernelIdeal_ReferenceIdeal_pre_thresholds_ascend := by
  intro m g m' g' hpre hargs
  refine ⟨fun c => W4 m c r14, (θ_run Cert.KernelIdeal.defs _ _).mono (fun _ h c => h.1 c) (run_read m g),
    (θ_run Cert.ReferenceIdeal.defs _ _).mono (fun _ h c => ⟨(h c).1.trans ?_, (h c).2⟩) (Cert.ReferenceIdeal.Value.run (F := Ideal) m' g')⟩
  obtain ⟨e0, e1, e2, e3⟩ := hargs c
  refine (reference_mean m' c ?_).trans ?_
  · rw [e3]; exact ascend_of_pre _ _ _ _ (hpre c)
  · rw [e0, e1, e2, e3]; exact (kernel_mean m c).symm

end Cert.Proof.Wmse
-- ==== Proof.lean ====
module

public import proofs.«01_k».proof.Defs
public import proofs.«01_k».proof.Proof.Frames
public import proofs.«01_k».proof.Proof.AsPrinted
public import proofs.«01_k».proof.Proof.Value

@[expose] public section

noncomputable section

namespace Cert.Proof

theorem claim : Cert.Claim := ⟨Cert.Kernel.Gen.facts, Cert.KernelIdeal.Gen.facts, Cert.ReferenceIdeal.Gen.facts, Wmse.preFacts,
  Wmse.frame_kernel, Wmse.frame_kernelIdeal, Wmse.frame_kernelIdeal_pre, Wmse.frame_reference, Wmse.frame_reference_pre, trivial,
  Wmse.algebraic⟩

end Cert.Proof

end
